-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_v8_0)) (v5 : (c : Dev Cert.KernelIdeal.nD) → Buf (Elt Ideal) ((c.tc : Thread Cert.KernelIdeal.nD Cert.KernelIdeal.τ).loc Cert.KernelIdeal.main_v8_1)) (v6 : (c : Dev Cert.KernelIdeal.nD) → Buf (Elt Ideal) ((c.tc : Thread Cert.KernelIdeal.nD Cert.KernelIdeal.τ).loc Cert.KernelIdeal.main_v8_2)) (v7 : (c : Dev Cert.KernelIdeal.nD) → Buf (Elt Ideal) ((c.tc : Thread Cert.KernelIdeal.nD Cert.KernelIdeal.τ).loc Cert.KernelIdeal.main_v8_3)) (v8 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_v8_0) = v4 c
          ∧ r.2.mem ((c.tc : Thread Cert.KernelIdeal.nD Cert.KernelIdeal.τ).loc Cert.KernelIdeal.main_v8_1) = v5 c
          ∧ r.2.mem ((c.tc : Thread Cert.KernelIdeal.nD Cert.KernelIdeal.τ).loc Cert.KernelIdeal.main_v8_2) = v6 c
          ∧ r.2.mem ((c.tc : Thread Cert.KernelIdeal.nD Cert.KernelIdeal.τ).loc Cert.KernelIdeal.main_v8_3) = v7 c
          ∧ r.2.mem ((c.tc : Thread Cert.KernelIdeal.nD Cert.KernelIdeal.τ).loc Cert.KernelIdeal.main_v22) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v29) = v5 c
          ∧ r.2.mem ((c.tc : Thread Cert.ReferenceIdeal.nD Cert.ReferenceIdeal.τ).loc Cert.ReferenceIdeal.main_v44) = v6 c
          ∧ r.2.mem ((c.tc : Thread Cert.ReferenceIdeal.nD Cert.ReferenceIdeal.τ).loc Cert.ReferenceIdeal.main_v46) = v7 c
          ∧ r.2.mem ((c.tc : Thread Cert.ReferenceIdeal.nD Cert.ReferenceIdeal.τ).loc Cert.ReferenceIdeal.main_v47) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S128x768 : Shape := ⟨2, ![128, 768]⟩
abbrev S6x768 : Shape := ⟨2, ![6, 768]⟩
abbrev S36x20x768 : Shape := ⟨3, ![36, 20, 768]⟩
abbrev S36x768 : Shape := ⟨2, ![36, 768]⟩
abbrev S128x336 : Shape := ⟨2, ![128, 336]⟩
abbrev S8x128 : Shape := ⟨2, ![8, 128]⟩
abbrev S128 : Shape := ⟨1, ![128]⟩
abbrev S128x1 : Shape := ⟨2, ![128, 1]⟩
abbrev S128x36 : Shape := ⟨2, ![128, 36]⟩
abbrev S36 : Shape := ⟨1, ![36]⟩
abbrev S36x1 : Shape := ⟨2, ![36, 1]⟩
abbrev S1x36 : Shape := ⟨2, ![1, 36]⟩
abbrev S1x128x36 : Shape := ⟨3, ![1, 128, 36]⟩
abbrev S1 : Shape := ⟨1, ![1]⟩
abbrev S1x1x1 : Shape := ⟨3, ![1, 1, 1]⟩
abbrev S4320x128 : Shape := ⟨2, ![4320, 128]⟩
abbrev S43008 : Shape := ⟨1, ![43008]⟩
abbrev S43008x128 : Shape := ⟨2, ![43008, 128]⟩
abbrev S168 : Shape := ⟨1, ![168]⟩
abbrev S4x168x128 : Shape := ⟨3, ![4, 168, 128]⟩
abbrev S_ : Shape := ⟨0, ![]⟩
abbrev S1x168x128 : Shape := ⟨3, ![1, 168, 128]⟩
abbrev S168x128 : Shape := ⟨2, ![168, 128]⟩
abbrev S128x50x768 : Shape := ⟨3, ![128, 50, 768]⟩
abbrev S2688x128 : Shape := ⟨2, ![2688, 128]⟩
abbrev S8x50x768 : Shape := ⟨3, ![8, 50, 768]⟩
abbrev S50x128 : Shape := ⟨2, ![50, 128]⟩
abbrev S1x50x128 : Shape := ⟨3, ![1, 50, 128]⟩
abbrev S3x768 : Shape := ⟨2, ![3, 768]⟩
abbrev S1x3x768 : Shape := ⟨3, ![1, 3, 768]⟩
abbrev S128x3x768 : Shape := ⟨3, ![128, 3, 768]⟩
abbrev S1x1 : Shape := ⟨2, ![1, 1]⟩

abbrev nBuf : Table → Nat
  | .hbm => 42
  | .local .tc .vmem => 24
  | .local .scVector .vmem => 5
  | _ => 0

abbrev bufTy : (tb : Table) → Fin (nBuf tb) → BufTy
  | .hbm, ⟨0, _⟩ => ⟨S128x768, .f32⟩
  | .hbm, ⟨1, _⟩ => ⟨S6x768, .f32⟩
  | .hbm, ⟨2, _⟩ => ⟨S6x768, .f32⟩
  | .hbm, ⟨3, _⟩ => ⟨S36x20x768, .f32⟩
  | .hbm, ⟨4, _⟩ => ⟨S36x768, .f32⟩
  | .hbm, ⟨5, _⟩ => ⟨S36x20x768, .f32⟩
  | .hbm, ⟨6, _⟩ => ⟨S36x768, .f32⟩
  | .hbm, ⟨7, _⟩ => ⟨S36x20x768, .f32⟩
  | .hbm, ⟨8, _⟩ => ⟨S36x768, .f32⟩
  | .hbm, ⟨9, _⟩ => ⟨S128x336, .i32⟩
  | .hbm, ⟨10, _⟩ => ⟨S128x336, .i32⟩
  | .hbm, ⟨11, _⟩ => ⟨S128x336, .i32⟩
  | .hbm, ⟨12, _⟩ => ⟨S128x336, .i32⟩
  | .hbm, ⟨13, _⟩ => ⟨S8x128, .f32⟩
  | .hbm, ⟨14, _⟩ => ⟨S4320x128, .f32⟩
  | .hbm, ⟨15, _⟩ => ⟨S4320x128, .f32⟩
  | .hbm, ⟨16, _⟩ => ⟨S43008, .i32⟩
  | .hbm, ⟨17, _⟩ => ⟨S43008, .i32⟩
  | .hbm, ⟨18, _⟩ => ⟨S43008, .i32⟩
  | .hbm, ⟨19, _⟩ => ⟨S43008, .i32⟩
  | .hbm, ⟨20, _⟩ => ⟨S43008x128, .f32⟩
  | .hbm, ⟨21, _⟩ => ⟨S43008x128, .f32⟩
  | .hbm, ⟨22, _⟩ => ⟨S43008x128, .f32⟩
  | .hbm, ⟨23, _⟩ => ⟨S43008x128, .f32⟩
  | .hbm, ⟨24, _⟩ => ⟨S128x50x768, .f32⟩
  | .hbm, ⟨25, _⟩ => ⟨S128x50x768, .f32⟩
  | .hbm, ⟨26, _⟩ => ⟨S128x50x768, .f32⟩
  | .hbm, ⟨27, _⟩ => ⟨S128x50x768, .f32⟩
  | .hbm, ⟨28, _⟩ => ⟨S3x768, .f32⟩
  | .hbm, ⟨29, _⟩ => ⟨S1x3x768, .f32⟩
  | .hbm, ⟨30, _⟩ => ⟨S128x3x768, .f32⟩
  | .hbm, ⟨31, _⟩ => ⟨S3x768, .f32⟩
  | .hbm, ⟨32, _⟩ => ⟨S1x3x768, .f32⟩
  | .hbm, ⟨33, _⟩ => ⟨S128x3x768, .f32⟩
  | .hbm, ⟨34, _⟩ => ⟨S3x768, .f32⟩
  | .hbm, ⟨35, _⟩ => ⟨S1x3x768, .f32⟩
  | .hbm, ⟨36, _⟩ => ⟨S128x3x768, .f32⟩
  | .hbm, ⟨37, _⟩ => ⟨S3x768, .f32⟩
  | .hbm, ⟨38, _⟩ => ⟨S1x3x768, .f32⟩
  | .hbm, ⟨39, _⟩ => ⟨S128x3x768, .f32⟩
  | .hbm, ⟨40, _⟩ => ⟨S1x1, .f32⟩
  | .hbm, ⟨41, _⟩ => ⟨S_, .f32⟩
  | .local .tc .vmem, ⟨0, _⟩ => ⟨S128x768, .f32⟩
  | .local .tc .vmem, ⟨1, _⟩ => ⟨S36x768, .f32⟩
  | .local .tc .vmem, ⟨2, _⟩ => ⟨S36x768, .f32⟩
  | .local .tc .vmem, ⟨3, _⟩ => ⟨S128x336, .i32⟩
  | .local .tc .vmem, ⟨4, _⟩ => ⟨S128x336, .i32⟩
  | .local .tc .vmem, ⟨5, _⟩ => ⟨S128x336, .i32⟩
  | .local .tc .vmem, ⟨6, _⟩ => ⟨S128x336, .i32⟩
  | .local .tc .vmem, ⟨7, _⟩ => ⟨S8x128, .f32⟩
  | .local .tc .vmem, ⟨8, _⟩ => ⟨S2688x128, .f32⟩
  | .local .tc .vmem, ⟨9, _⟩ => ⟨S2688x128, .f32⟩
  | .local .tc .vmem, ⟨10, _⟩ => ⟨S2688x128, .f32⟩
  | .local .tc .vmem, ⟨11, _⟩ => ⟨S2688x128, .f32⟩
  | .local .tc .vmem, ⟨12, _⟩ => ⟨S2688x128, .f32⟩
  | .local .tc .vmem, ⟨13, _⟩ => ⟨S2688x128, .f32⟩
  | .local .tc .vmem, ⟨14, _⟩ => ⟨S2688x128, .f32⟩
  | .local .tc .vmem, ⟨15, _⟩ => ⟨S2688x128, .f32⟩
  | .local .tc .vmem, ⟨16, _⟩ => ⟨S8x50x768, .f32⟩
  | .local .tc .vmem, ⟨17, _⟩ => ⟨S8x50x768, .f32⟩
  | .local .tc .vmem, ⟨18, _⟩ => ⟨S8x50x768, .f32⟩
  | .local .tc .vmem, ⟨19, _⟩ => ⟨S8x50x768, .f32⟩
  | .local .tc .vmem, ⟨20, _⟩ => ⟨S8x50x768, .f32⟩
  | .local .tc .vmem, ⟨21, _⟩ => ⟨S8x50x768, .f32⟩
  | .local .tc .vmem, ⟨22, _⟩ => ⟨S8x50x768, .f32⟩
  | .local .tc .vmem, ⟨23, _⟩ => ⟨S8x50x768, .f32⟩
  | .local .scVector .vmem, ⟨0, _⟩ => ⟨S168, .i32⟩
  | .local .scVector .vmem, ⟨1, _⟩ => ⟨S168, .i32⟩
  | .local .scVector .vmem, ⟨2, _⟩ => ⟨S168, .i32⟩
  | .local .scVector .vmem, ⟨3, _⟩ => ⟨S168, .i32⟩
  | .local .scVector .vmem, ⟨4, _⟩ => ⟨S4x168x128, .f32⟩
  | _, _ => ⟨S128x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTables nBuf rfl bufTy 4 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v1_scv : Ref sig .scVector := ⟨.hbm, 14, rfl⟩
abbrev main_v2_scv : Ref sig .scVector := ⟨.hbm, 15, rfl⟩
abbrev main_v3_scv : Ref sig .scVector := ⟨.hbm, 16, rfl⟩
abbrev main_v4_scv : Ref sig .scVector := ⟨.hbm, 17, rfl⟩
abbrev main_v5_scv : Ref sig .scVector := ⟨.hbm, 18, rfl⟩
abbrev main_v6_scv : Ref sig .scVector := ⟨.hbm, 19, rfl⟩
abbrev main_v7_0_scv : Ref sig .scVector := ⟨.hbm, 20, rfl⟩
abbrev main_v7_1_scv : Ref sig .scVector := ⟨.hbm, 21, rfl⟩
abbrev main_v7_2_scv : Ref sig .scVector := ⟨.hbm, 22, rfl⟩
abbrev main_v7_3_scv : Ref sig .scVector := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc2_sem0_0 : DmaSem sig := 48
abbrev cc2_sem0_1 : DmaSem sig := 49
abbrev cc2_sem1_0 : DmaSem sig := 50
abbrev cc2_sem1_1 : DmaSem sig := 51
abbrev cc2_sem2_0 : DmaSem sig := 52
abbrev cc2_sem2_1 : DmaSem sig := 53
abbrev cc2_sem3_0 : DmaSem sig := 54
abbrev cc2_sem3_1 : DmaSem sig := 55
abbrev cc2_sem4_0 : DmaSem sig := 56
abbrev cc2_sem4_1 : DmaSem sig := 57
abbrev cc2_sem5_0 : DmaSem sig := 58
abbrev cc2_sem5_1 : DmaSem sig := 59
abbrev cc2_sem6_0 : DmaSem sig := 60
abbrev cc2_sem6_1 : DmaSem sig := 61
abbrev cc2_sem7_0 : DmaSem sig := 62
abbrev cc2_sem7_1 : DmaSem sig := 63
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x336 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x336 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x336 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x336 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1344_i32 : BitVec 32 := 1344#32
  let v2 : BitVec 32 := Scalar.muli v1 c1344_i32
  let v3 : BitVec 32 := Scalar.addi v2 c0_i32
  ![v3.toNat]
def k1_off2 (i : grid1.Coords) (c0_i32_23 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1344_i32 : BitVec 32 := 1344#32
  let v2 : BitVec 32 := Scalar.muli v1 c1344_i32
  let v22 : BitVec 32 := Scalar.addi v2 c0_i32_23
  let c0_i32_27 : BitVec 32 := 0#32
  ![v22.toNat, 0]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2688x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2688x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2688x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2688x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x50x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x50x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x50x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x50x768 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x768 : Shape := ⟨2, ![128, 768]⟩
abbrev S6x768 : Shape := ⟨2, ![6, 768]⟩
abbrev S36x20x768 : Shape := ⟨3, ![36, 20, 768]⟩
abbrev S36x768 : Shape := ⟨2, ![36, 768]⟩
abbrev S_ : Shape := ⟨0, ![]⟩
abbrev S128 : Shape := ⟨1, ![128]⟩
abbrev S128x1 : Shape := ⟨2, ![128, 1]⟩
abbrev S1x6x768 : Shape := ⟨3, ![1, 6, 768]⟩
abbrev S128x6x768 : Shape := ⟨3, ![128, 6, 768]⟩
abbrev S128x3x768 : Shape := ⟨3, ![128, 3, 768]⟩
abbrev S36 : Shape := ⟨1, ![36]⟩
abbrev S36x1 : Shape := ⟨2, ![36, 1]⟩
abbrev S128x36 : Shape := ⟨2, ![128, 36]⟩
abbrev S128x5 : Shape := ⟨2, ![128, 5]⟩
abbrev S128x5x1 : Shape := ⟨3, ![128, 5, 1]⟩
abbrev S1 : Shape := ⟨1, ![1]⟩
abbrev S1x1x1 : Shape := ⟨3, ![1, 1, 1]⟩
abbrev S128x128x5 : Shape := ⟨3, ![128, 128, 5]⟩
abbrev S128x5x20x768 : Shape := ⟨4, ![128, 5, 20, 768]⟩
abbrev S128x5x10x768 : Shape := ⟨4, ![128, 5, 10, 768]⟩
abbrev S128x50x768 : Shape := ⟨3, ![128, 50, 768]⟩

abbrev nBuf : Space → Nat
  | .hbm => 172
  | .vmem => 0
  | .smem => 0
  | _ => 0

abbrev hbmTy0_0 (i : Nat) : BufTy := match i % 128 with
  | 0 => ⟨S128x768, .f32⟩
  | 1 => ⟨S6x768, .f32⟩
  | 2 => ⟨S6x768, .f32⟩
  | 3 => ⟨S36x20x768, .f32⟩
  | 4 => ⟨S36x768, .f32⟩
  | 5 => ⟨S36x20x768, .f32⟩
  | 6 => ⟨S36x768, .f32⟩
  | 7 => ⟨S36x20x768, .f32⟩
  | 8 => ⟨S36x768, .f32⟩
  | 9 => ⟨S128x768, .f32⟩
  | 10 => ⟨S_, .f32⟩
  | 11 => ⟨S128, .f32⟩
  | 12 => ⟨S128x1, .f32⟩
  | 13 => ⟨S128x1, .f32⟩
  | 14 => ⟨S_, .f32⟩
  | 15 => ⟨S128x1, .f32⟩
  | 16 => ⟨S128x1, .f32⟩
  | 17 => ⟨S128x768, .f32⟩
  | 18 => ⟨S128x768, .f32⟩
  | 19 => ⟨S1x6x768, .f32⟩
  | 20 => ⟨S128x6x768, .f32⟩
  | 21 => ⟨S128x3x768, .f32⟩
  | 22 => ⟨S128x3x768, .f32⟩
  | 23 => ⟨S1x6x768, .f32⟩
  | 24 => ⟨S128x6x768, .f32⟩
  | 25 => ⟨S128x3x768, .f32⟩
  | 26 => ⟨S128x3x768, .f32⟩
  | 27 => ⟨S36x768, .f32⟩
  | 28 => ⟨S_, .f32⟩
  | 29 => ⟨S36, .f32⟩
  | 30 => ⟨S36x1, .f32⟩
  | 31 => ⟨S36x1, .f32⟩
  | 32 => ⟨S_, .f32⟩
  | 33 => ⟨S36x1, .f32⟩
  | 34 => ⟨S36x1, .f32⟩
  | 35 => ⟨S36x768, .f32⟩
  | 36 => ⟨S36x768, .f32⟩
  | 37 => ⟨S128x36, .f32⟩
  | 38 => ⟨S128x5, .f32⟩
  | 39 => ⟨S128x5, .i32⟩
  | 40 => ⟨S_, .i32⟩
  | 41 => ⟨S128x5, .i32⟩
  | 42 => ⟨S128x5, .i1⟩
  | 43 => ⟨S_, .i32⟩
  | 44 => ⟨S128x5, .i32⟩
  | 45 => ⟨S128x5, .i32⟩
  | 46 => ⟨S128x5, .i32⟩
  | 47 => ⟨S128x5x1, .i32⟩
  | 48 => ⟨S1, .i32⟩
  | 49 => ⟨S_, .i32⟩
  | 50 => ⟨S128x5x1, .i32⟩
  | 51 => ⟨S128x5x1, .i1⟩
  | 52 => ⟨S1x1x1, .i32⟩
  | 53 => ⟨S128x5x1, .i32⟩
  | 54 => ⟨S128x5x1, .i1⟩
  | 55 => ⟨S128x5x1, .i1⟩
  | 56 => ⟨S_, .i1⟩
  | 57 => ⟨S128x5, .i1⟩
  | 58 => ⟨S128x128x5, .f32⟩
  | 59 => ⟨S128x128x5, .i1⟩
  | 60 => ⟨S_, .f32⟩
  | 61 => ⟨S128x128x5, .f32⟩
  | 62 => ⟨S128x128x5, .f32⟩
  | 63 => ⟨S_, .f32⟩
  | 64 => ⟨S128x128x5, .f32⟩
  | 65 => ⟨S128x128x5, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .i32⟩
  | 73 => ⟨S128x5, .i32⟩
  | 74 => ⟨S128x5, .i1⟩
  | 75 => ⟨S_, .i32⟩
  | 76 => ⟨S128x5, .i32⟩
  | 77 => ⟨S128x5, .i32⟩
  | 78 => ⟨S128x5, .i32⟩
  | 79 => ⟨S128x5x1, .i32⟩
  | 80 => ⟨S1, .i32⟩
  | 81 => ⟨S_, .i32⟩
  | 82 => ⟨S128x5x1, .i32⟩
  | 83 => ⟨S128x5x1, .i1⟩
  | 84 => ⟨S1x1x1, .i32⟩
  | 85 => ⟨S128x5x1, .i32⟩
  | 86 => ⟨S128x5x1, .i1⟩
  | 87 => ⟨S128x5x1, .i1⟩
  | 88 => ⟨S_, .i1⟩
  | 89 => ⟨S128x5, .i1⟩
  | 90 => ⟨S128x5x20x768, .f32⟩
  | 91 => ⟨S128x5x20x768, .i1⟩
  | 92 => ⟨S_, .f32⟩
  | 93 => ⟨S128x5x20x768, .f32⟩
  | 94 => ⟨S128x5x20x768, .f32⟩
  | 95 => ⟨S128x5x10x768, .f32⟩
  | 96 => ⟨S128x50x768, .f32⟩
  | 97 => ⟨S128x5x10x768, .f32⟩
  | 98 => ⟨S128x50x768, .f32⟩
  | 99 => ⟨S36x768, .f32⟩
  | 100 => ⟨S_, .f32⟩
  | 101 => ⟨S36, .f32⟩
  | 102 => ⟨S36x1, .f32⟩
  | 103 => ⟨S36x1, .f32⟩
  | 104 => ⟨S_, .f32⟩
  | 105 => ⟨S36x1, .f32⟩
  | 106 => ⟨S36x1, .f32⟩
  | 107 => ⟨S36x768, .f32⟩
  | 108 => ⟨S36x768, .f32⟩
  | 109 => ⟨S128x36, .f32⟩
  | 110 => ⟨S128x5, .f32⟩
  | 111 => ⟨S128x5, .i32⟩
  | 112 => ⟨S_, .i32⟩
  | 113 => ⟨S128x5, .i32⟩
  | 114 => ⟨S128x5, .i1⟩
  | 115 => ⟨S_, .i32⟩
  | 116 => ⟨S128x5, .i32⟩
  | 117 => ⟨S128x5, .i32⟩
  | 118 => ⟨S128x5, .i32⟩
  | 119 => ⟨S128x5x1, .i32⟩
  | 120 => ⟨S1, .i32⟩
  | 121 => ⟨S_, .i32⟩
  | 122 => ⟨S128x5x1, .i32⟩
  | 123 => ⟨S128x5x1, .i1⟩
  | 124 => ⟨S1x1x1, .i32⟩
  | 125 => ⟨S128x5x1, .i32⟩
  | 126 => ⟨S128x5x1, .i1⟩
  | 127 => ⟨S128x5x1, .i1⟩
  | _ => ⟨S128x768, .f32⟩

abbrev hbmTy0_1 (i : Nat) : BufTy := match i % 128 with
  | 0 => ⟨S_, .i1⟩
  | 1 => ⟨S128x5, .i1⟩
  | 2 => ⟨S128x128x5, .f32⟩
  | 3 => ⟨S128x128x5, .i1⟩
  | 4 => ⟨S_, .f32⟩
  | 5 => ⟨S128x128x5, .f32⟩
  | 6 => ⟨S128x128x5, .f32⟩
  | 7 => ⟨S_, .f32⟩
  | 8 => ⟨S128x128x5, .f32⟩
  | 9 => ⟨S128x128x5, .f32⟩
  | 10 => ⟨S_, .f32⟩
  | 11 => ⟨S_, .f32⟩
  | 12 => ⟨S_, .f32⟩
  | 13 => ⟨S_, .f32⟩
  | 14 => ⟨S_, .f32⟩
  | 15 => ⟨S_, .i32⟩
  | 16 => ⟨S128x5, .i32⟩
  | 17 => ⟨S128x5, .i1⟩
  | 18 => ⟨S_, .i32⟩
  | 19 => ⟨S128x5, .i32⟩
  | 20 => ⟨S128x5, .i32⟩
  | 21 => ⟨S128x5, .i32⟩
  | 22 => ⟨S128x5x1, .i32⟩
  | 23 => ⟨S1, .i32⟩
  | 24 => ⟨S_, .i32⟩
  | 25 => ⟨S128x5x1, .i32⟩
  | 26 => ⟨S128x5x1, .i1⟩
  | 27 => ⟨S1x1x1, .i32⟩
  | 28 => ⟨S128x5x1, .i32⟩
  | 29 => ⟨S128x5x1, .i1⟩
  | 30 => ⟨S128x5x1, .i1⟩
  | 31 => ⟨S_, .i1⟩
  | 32 => ⟨S128x5, .i1⟩
  | 33 => ⟨S128x5x20x768, .f32⟩
  | 34 => ⟨S128x5x20x768, .i1⟩
  | 35 => ⟨S_, .f32⟩
  | 36 => ⟨S128x5x20x768, .f32⟩
  | 37 => ⟨S128x5x20x768, .f32⟩
  | 38 => ⟨S128x5x10x768, .f32⟩
  | 39 => ⟨S128x50x768, .f32⟩
  | 40 => ⟨S128x5x10x768, .f32⟩
  | 41 => ⟨S128x50x768, .f32⟩
  | 42 => ⟨S_, .f32⟩
  | 43 => ⟨S_, .f32⟩
  | _ => ⟨S128x768, .f32⟩

abbrev hbmTy (i : Nat) : BufTy := match i / 128 with
  | 0 => hbmTy0_0 i
  | 1 => hbmTy0_1 i
  | _ => ⟨S128x768, .f32⟩

abbrev bufTy : (tb : Table) → Fin (tcTables nBuf tb) → BufTy
  | .hbm, ⟨i, _⟩ => hbmTy i
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_values : Ref sig .tc := ⟨.hbm, 38, rfl⟩
abbrev main_indices : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_call2_cst : Ref sig .tc := ⟨.hbm, 60, rfl⟩
abbrev main_call2_v15 : Ref sig .tc := ⟨.hbm, 61, rfl⟩
abbrev main_v19 : Ref sig .tc := ⟨.hbm, 62, rfl⟩
abbrev main_cst_1 : Ref sig .tc := ⟨.hbm, 63, rfl⟩
abbrev main_v20 : Ref sig .tc := ⟨.hbm, 64, rfl⟩
abbrev main_v21 : Ref sig .tc := ⟨.hbm, 65, rfl⟩
abbrev main_cst_2 : Ref sig .tc := ⟨.hbm, 66, rfl⟩
abbrev main_v22 : Ref sig .tc := ⟨.hbm, 67, rfl⟩
abbrev main_cst_3 : Ref sig .tc := ⟨.hbm, 68, rfl⟩
abbrev main_v23 : Ref sig .tc := ⟨.hbm, 69, rfl⟩
abbrev main_cst_4 : Ref sig .tc := ⟨.hbm, 70, rfl⟩
abbrev main_v24 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_call3_cst : Ref sig .tc := ⟨.hbm, 92, rfl⟩
abbrev main_call3_v15 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_call4_v0 : Ref sig .tc := ⟨.hbm, 99, rfl⟩
abbrev main_call4_cst : Ref sig .tc := ⟨.hbm, 100, rfl⟩
abbrev main_call4_v1 : Ref sig .tc := ⟨.hbm, 101, rfl⟩
abbrev main_call4_v2 : Ref sig .tc := ⟨.hbm, 102, rfl⟩
abbrev main_v30 : Ref sig .tc := ⟨.hbm, 103, rfl⟩
abbrev main_cst_5 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_values_6 : Ref sig .tc := ⟨.hbm, 110, rfl⟩
abbrev main_indices_7 : Ref sig .tc := ⟨.hbm, 111, rfl⟩
abbrev main_call5_c : Ref sig .tc := ⟨.hbm, 112, rfl⟩
abbrev main_call5_v0 : Ref sig .tc := ⟨.hbm, 113, rfl⟩
abbrev main_call5_v1 : Ref sig .tc := ⟨.hbm, 114, rfl⟩
abbrev main_call5_c_0 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_v5 : Ref sig .tc := ⟨.hbm, 119, rfl⟩
abbrev main_call5_c_1 : Ref sig .tc := ⟨.hbm, 120, rfl⟩
abbrev main_call5_c_2 : Ref sig .tc := ⟨.hbm, 121, rfl⟩
abbrev main_call5_v6 : Ref sig .tc := ⟨.hbm, 122, rfl⟩
abbrev main_call5_v7 : Ref sig .tc := ⟨.hbm, 123, rfl⟩
abbrev main_call5_v8 : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_c_3 : Ref sig .tc := ⟨.hbm, 128, rfl⟩
abbrev main_call5_v12 : Ref sig .tc := ⟨.hbm, 129, rfl⟩
abbrev main_call5_v13 : Ref sig .tc := ⟨.hbm, 130, rfl⟩
abbrev main_call5_v14 : Ref sig .tc := ⟨.hbm, 131, rfl⟩
abbrev main_call5_cst : Ref sig .tc := ⟨.hbm, 132, rfl⟩
abbrev main_call5_v15 : Ref sig .tc := ⟨.hbm, 133, rfl⟩
abbrev main_v36 : Ref sig .tc := ⟨.hbm, 134, rfl⟩
abbrev main_cst_8 : Ref sig .tc := ⟨.hbm, 135, rfl⟩
abbrev main_v37 : Ref sig .tc := ⟨.hbm, 136, rfl⟩
abbrev main_v38 : Ref sig .tc := ⟨.hbm, 137, rfl⟩
abbrev main_cst_9 : Ref sig .tc := ⟨.hbm, 138, rfl⟩
abbrev main_v39 : Ref sig .tc := ⟨.hbm, 139, rfl⟩
abbrev main_cst_10 : Ref sig .tc := ⟨.hbm, 140, rfl⟩
abbrev main_v40 : Ref sig .tc := ⟨.hbm, 141, rfl⟩
abbrev main_v41 : Ref sig .tc := ⟨.hbm, 142, rfl⟩
abbrev main_call6_c : Ref sig .tc := ⟨.hbm, 143, rfl⟩
abbrev main_call6_v0 : Ref sig .tc := ⟨.hbm, 144, rfl⟩
abbrev main_call6_v1 : Ref sig .tc := ⟨.hbm, 145, rfl⟩
abbrev main_call6_c_0 : Ref sig .tc := ⟨.hbm, 146, rfl⟩
abbrev main_call6_v2 : Ref sig .tc := ⟨.hbm, 147, rfl⟩
abbrev main_call6_v3 : Ref sig .tc := ⟨.hbm, 148, rfl⟩
abbrev main_call6_v4 : Ref sig .tc := ⟨.hbm, 149, rfl⟩
abbrev main_call6_v5 : Ref sig .tc := ⟨.hbm, 150, rfl⟩
abbrev main_call6_c_1 : Ref sig .tc := ⟨.hbm, 151, rfl⟩
abbrev main_call6_c_2 : Ref sig .tc := ⟨.hbm, 152, rfl⟩
abbrev main_call6_v6 : Ref sig .tc := ⟨.hbm, 153, rfl⟩
abbrev main_call6_v7 : Ref sig .tc := ⟨.hbm, 154, rfl⟩
abbrev main_call6_v8 : Ref sig .tc := ⟨.hbm, 155, rfl⟩
abbrev main_call6_v9 : Ref sig .tc := ⟨.hbm, 156, rfl⟩
abbrev main_call6_v10 : Ref sig .tc := ⟨.hbm, 157, rfl⟩
abbrev main_call6_v11 : Ref sig .tc := ⟨.hbm, 158, rfl⟩
abbrev main_call6_c_3 : Ref sig .tc := ⟨.hbm, 159, rfl⟩
abbrev main_call6_v12 : Ref sig .tc := ⟨.hbm, 160, rfl⟩
abbrev main_call6_v13 : Ref sig .tc := ⟨.hbm, 161, rfl⟩
abbrev main_call6_v14 : Ref sig .tc := ⟨.hbm, 162, rfl⟩
abbrev main_call6_cst : Ref sig .tc := ⟨.hbm, 163, rfl⟩
abbrev main_call6_v15 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_cst_11 : Ref sig .tc := ⟨.hbm, 170, rfl⟩
abbrev main_v47 : Ref sig .tc := ⟨.hbm, 171, rfl⟩

abbrev nD : Nat := 1
abbrev τ : Topo := Topo.v7x

variable {F : FTy → Type} [FloatOps F]
-- ==== Proof.Picks.lean ====
/- Picking the greatest entries of a row one after the other, and what a stable sort makes of the same row. -/
module

public import Idealize.ShloMosaic.Lib.SortPrefix
public import Idealize.ShloMosaic.PureOps.Ideal.Laws
public import Idealize.ShloMosaic.Lib.SortFacts

@[expose] public section

noncomputable section

namespace Cert.Proof.Sc

open Idealize.ShloMosaic

variable (w : Fin 36 → EReal)

/-- A row has a first greatest entry. -/
theorem exists_first : ∃ p, (∀ q, w q ≤ w p) ∧ ∀ q, w q = w p → p ≤ q := by
  obtain ⟨m, -, hm⟩ := Finset.exists_max_image Finset.univ w ⟨0, Finset.mem_univ _⟩
  have hne : (Finset.univ.filter fun q => w q = w m).Nonempty := ⟨m, by simp⟩
  refine ⟨(Finset.univ.filter fun q => w q = w m).min' hne, ?_, ?_⟩
  · have h := Finset.min'_mem _ hne
    rw [Finset.mem_filter] at h
    intro q
    rw [h.2]
    exact hm q (Finset.mem_univ q)
  · have h := Finset.min'_mem _ hne
    rw [Finset.mem_filter] at h
    intro q hq
    exact Finset.min'_le _ _ (by rw [Finset.mem_filter]; exact ⟨Finset.mem_univ q, hq.trans h.2⟩)

/-- The first position at which a row is greatest. -/
def first : Fin 36 := (exists_first w).choose

theorem le_first (q : Fin 36) : w q ≤ w (first w) := (exists_first w).choose_spec.1 q

theorem first_le (q : Fin 36) (h : w q = w (first w)) : first w ≤ q := (exists_first w).choose_spec.2 q h

/-- The row with its first greatest entry overwritten by −∞. -/
def struck : Fin 36 → EReal := fun q => if q = first w then ⊥ else w q

/-- The row after `r` entries are struck. -/
def left : ℕ → Fin 36 → EReal
  | 0 => w
  | r + 1 => struck (left r)

/-- The position picked in round `r`. -/
def chosen (r : ℕ) : Fin 36 := first (left w r)

/-- What is left after `r` rounds: −∞ at the positions picked so far, the row elsewhere. -/
theorem left_eq (r : ℕ) (q : Fin 36) : left w r q = if ∃ s < r, chosen w s = q then ⊥ else w q := by
  induction r with
  | zero => simp [left]
  | succ r ih =>
    show (if q = first (left w r) then ⊥ else left w r q) = _
    rw [ih]
    by_cases h : q = first (left w r)
    · rw [if_pos h, if_pos ⟨r, Nat.lt_succ_self r, h.symm⟩]
    · rw [if_neg h]
      congr 1
      refine propext ⟨fun ⟨s, hs, e⟩ => ⟨s, hs.trans (Nat.lt_succ_self r), e⟩, fun ⟨s, hs, e⟩ => ⟨s, ?_, e⟩⟩
      rcases Nat.lt_succ_iff_lt_or_eq.mp hs with hs | rfl
      · exact hs
      · exact absurd e.symm h

variable {w}

/-- While the row has no −∞ of its own, a round picks a position not picked before. -/
theorem chosen_new (hw : ∀ q, w q ≠ ⊥) {r : ℕ} (hr : r < 36) (s : ℕ) (hs : s < r) : chosen w s ≠ chosen w r := by
  intro e
  obtain ⟨q, -, hq⟩ : ∃ q ∈ (Finset.univ : Finset (Fin 36)), q ∉ (Finset.range r).image (chosen w) := by
    refine Finset.exists_mem_notMem_of_card_lt_card ?_
    have h : ((Finset.range r).image (chosen w)).card ≤ r := Finset.card_image_le.trans (Finset.card_range r).le
    rw [Finset.card_univ, Fintype.card_fin]
    exact h.trans_lt hr
  have h1 : left w r (chosen w r) = ⊥ := by rw [left_eq, if_pos ⟨s, hs, e⟩]
  have h2 : left w r q = w q := by
    rw [left_eq, if_neg]
    rintro ⟨t, ht, rfl⟩
    exact hq (Finset.mem_image_of_mem _ (Finset.mem_range.mpr ht))
  have h3 := le_first (left w r) q
  rw [show first (left w r) = chosen w r from rfl, h1, h2] at h3
  exact hw q (le_bot_iff.mp h3)

theorem left_chosen (hw : ∀ q, w q ≠ ⊥) {r : ℕ} (hr : r < 36) : left w r (chosen w r) = w (chosen w r) := by
  rw [left_eq, if_neg]
  rintro ⟨s, hs, e⟩
  exact chosen_new hw hr s hs e

/-- A position not picked before round `r` is no greater there, and if equal, not earlier. -/
theorem chosen_max (hw : ∀ q, w q ≠ ⊥) {r : ℕ} (hr : r < 36) (p : Fin 36) (hp : ∀ s < r, chosen w s ≠ p) :
    w p ≤ w (chosen w r) ∧ (w p = w (chosen w r) → chosen w r ≤ p) := by
  have e : left w r p = w p := by
    rw [left_eq, if_neg]
    rintro ⟨s, hs, e⟩
    exact hp s hs e
  have h1 := le_first (left w r) p
  have h2 := first_le (left w r) p
  rw [show first (left w r) = chosen w r from rfl, e, left_chosen hw hr] at h1 h2
  exact ⟨h1, h2⟩

/-- On an increasing list a stable sort by a comparison of keys is the sort by keys and then positions. -/
theorem stableSort_then_position {n : ℕ} {κ : Type} [DecidableEq κ] (lt : κ → κ → Bool) (key : Fin n → κ) :
    ∀ l : List (Fin n), l.Pairwise (· < ·) →
      stableSort (fun k k' => lt (key k) (key k')) l
        = stableSort (fun k k' => lt (key k) (key k') || (decide (key k = key k') && decide (k < k'))) l
  | [], _ => rfl
  | a :: l, h => by
    rw [List.pairwise_cons] at h
    unfold stableSort
    rw [stableSort_then_position lt key l h.2]
    refine insertBefore_congr _ _ a _ fun b hb => ?_
    have hb' := h.1 b ((perm_stableSort _ l).mem_iff.mp hb)
    rw [show decide (b < a) = false from decide_eq_false (not_lt.mpr hb'.le), Bool.and_false, Bool.or_false]

theorem sortedFrom_of_stableSort {n : ℕ} (B B' : Fin n → Fin n → Bool)
    (h : stableSort B (List.finRange n) = stableSort B' (List.finRange n)) (k : Fin n) : sortedFrom B k = sortedFrom B' k := by
  unfold sortedFrom sortPositions
  simp only [List.get_eq_getElem]
  exact List.getElem_of_eq h _

/-- The sort of a row by decreasing value, equal values in their order, begins with the picks of the rounds. -/
theorem sortedFrom_eq_chosen (hw : ∀ q, w q ≠ ⊥) (before : Fin 36 → Fin 36 → Bool)
    (hb : ∀ k k', before k k' = decide (w k' < w k)) {r : ℕ} (hr : r < 36) : sortedFrom before ⟨r, hr⟩ = chosen w r := by
  have hB := StrictTotalBefore.of_key_then_position (n := 36) (fun a b : EReal => decide (b < a)) w (fun a => by simp)
    (fun a b c hab hbc => by simp only [decide_eq_true_eq] at *; exact hbc.trans hab)
    (fun a b => by simp only [decide_eq_true_eq]; rcases lt_trichotomy b a with h | h | h; exacts [.inl h, .inr (.inl h.symm), .inr (.inr h)])
  have e : before = fun k k' => decide (w k' < w k) := by funext k k'; exact hb k k'
  subst e
  refine (sortedFrom_of_stableSort _ _ (stableSort_then_position (fun a b : EReal => decide (b < a)) w _
    (List.pairwise_lt_finRange 36)) ⟨r, hr⟩).trans ?_
  refine hB.sortedFrom_eq_of_prefix (k := 36) (le_refl 36) (fun i => chosen w i.val) ?_ ?_ ?_ ⟨r, hr⟩
  · intro i j hij
    by_contra hne
    rcases lt_or_gt_of_ne (fun h => hne (Fin.ext h) : i.val ≠ j.val) with h | h
    · exact chosen_new hw j.isLt i.val h hij
    · exact chosen_new hw i.isLt j.val h hij.symm
  · intro i j hij
    obtain ⟨h1, h2⟩ := chosen_max hw i.isLt (chosen w j.val) fun s hs => chosen_new hw j.isLt s (hs.trans hij)
    simp only [Bool.or_eq_false_iff, decide_eq_false_iff_not, not_lt, Bool.and_eq_false_iff]
    exact ⟨h1, (em (w (chosen w j.val) = w (chosen w i.val))).elim (fun h => .inr (h2 h)) .inl⟩
  · intro i p hp
    obtain ⟨h1, h2⟩ := chosen_max hw i.isLt p fun s hs => hp ⟨s, hs.trans i.isLt⟩
    simp only [Bool.or_eq_false_iff, decide_eq_false_iff_not, not_lt, Bool.and_eq_false_iff]
    exact ⟨h1, (em (w p = w (chosen w i.val))).elim (fun h => .inr (h2 h)) .inl⟩

variable (w)

/-- The greatest entry, as a fold. -/
theorem fold_max_eq : Finset.univ.fold max ⊥ w = w (first w) := by
  refine le_antisymm ?_ ?_
  · rw [Finset.fold_max_le]
    exact ⟨bot_le, fun q _ => le_first w q⟩
  · rw [Finset.le_fold_max]
    exact .inr ⟨first w, Finset.mem_univ _, le_rfl⟩

/-- The least position at which the row equals its greatest entry, as a fold over the positions written as numbers. -/
theorem fold_min_eq :
    Finset.univ.fold min (⊤ : EReal) (fun q : Fin 36 => if w q = w (first w) then (((q.val : ℝ)) : EReal) else ((36 : ℝ) : EReal))
      = (((first w).val : ℝ) : EReal) := by
  refine le_antisymm ?_ ?_
  · rw [Finset.fold_min_le]
    exact .inr ⟨first w, Finset.mem_univ _, by rw [if_pos rfl]⟩
  · rw [Finset.le_fold_min]
    refine ⟨le_top, fun q _ => ?_⟩
    split
    · next h =>
      have := first_le w q h
      exact EReal.coe_le_coe_iff.mpr (by exact_mod_cast this)
    · exact EReal.coe_le_coe_iff.mpr (by exact_mod_cast (first w).isLt.le)

end Cert.Proof.Sc
-- ==== Proof.Rounds.lean ====
/- The rounds of the selection on a whole block of rows, read row by row over the extended reals. -/
module

public import Idealize.ShloMosaic.Lib.KernelVsHost
public import Idealize.ShloMosaic.Lib.ValueIdx
public import Idealize.ShloMosaic.Lib.Pipeline.Value
public import proofs.«01_k».proof.Proof.Gen.KernelIdeal.Skeleton
public import proofs.«01_k».proof.Proof.Picks

@[expose] public section

noncomputable section

namespace Cert.Proof.Sc

open Cert.KernelIdeal Cert.KernelIdeal.Gen
open Idealize.ShloMosaic Idealize.ShloMosaic.ValueIdx

/-- A column spread over the 36 places of its rows. -/
theorem spread_apply {α : Type} (z : S128x1.Idx → α) (b : Fin 128) (p : Fin 36) :
    broadcastTo S128x36 z broadcasts_S128x1_S128x36 (ix2 b p) = z (ix2 b 0) :=
  broadcastTo_apply z _ _ _ fun a => by
    match a with
    | ⟨0, _⟩ => rfl
    | ⟨1, _⟩ => rfl

/-- A vector of 128 numbers stood up as a column. -/
theorem column_apply {α : Type} (z : S128.Idx → α) (b : Fin 128) : shapeCast S128x1 z shapeCasts_S128_S128x1 (ix2 b 0) = z (ix1 b) :=
  shapeCast_apply z _ _ _ (by
    rw [Shape.rowMajor_val_one, Shape.rowMajor_val_two]
    show b.val = b.val * 1 + 0
    omega)

/-- Place `p` of row `b`, as the row reduction names it. -/
theorem lift_row (b : Fin 128) (p : Fin 36) : (reduces_S128x36_S128 : S128x36.Reduces [1] S128).lift (ix1 b) p = ix2 b p := by
  funext a
  match a with
  | ⟨0, _⟩ => rfl
  | ⟨1, _⟩ => rfl

theorem ofBits_36 : Ideal.ofBits .f32 0x42100000#32 = ((36 : ℝ) : EReal) := by
  simp [Ideal.ofBits, Ideal.ieee, -EReal.coe_mul]; norm_num
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-- Row `b` of a block. -/
abbrev row (v : FVec Ideal S128x36 .f32) (b : Fin 128) : Fin 36 → EReal := fun p => v (ix2 b p)

/-- A row's maximum, from −∞. -/
theorem rowMax_apply (v : FVec Ideal S128x36 .f32) (b : Fin 128) :
    multiReduction .maximumf [1] S128 v 0xFF800000#32 reduces_S128x36_S128 (.inl rfl) rfl (ix1 b) = row v b (first (row v b)) := by
  refine (Ideal.multiReduction_maximumf_single v _ reduces_S128x36_S128 _ _ _).trans (Eq.trans ?_ (fold_max_eq (row v b)))
  rw [show (FloatOps.ofBits .f32 0xFF800000#32 : Ideal .f32) = (⊥ : EReal) from ofBits_bot]
  exact Finset.fold_congr fun p _ => congrArg v (lift_row b p)

/-- A row's minimum, from +∞. -/
theorem rowMin_apply (v : FVec Ideal S128x36 .f32) (b : Fin 128) :
    multiReduction .minimumf [1] S128 v 0x7F800000#32 reduces_S128x36_S128 (.inl rfl) rfl (ix1 b) = Finset.univ.fold min (⊤ : EReal) (row v b) := by
  refine (multiReduction_minimumf_eq_fold v _ reduces_S128x36_S128 _ _ _).trans ?_
  refine ((reduces_S128x36_S128 : S128x36.Reduces [1] S128).fold_filter_drop_single _ _ v (ix1 b)).trans ?_
  rw [show (FloatOps.ofBits .f32 0x7F800000#32 : Ideal .f32) = (⊤ : EReal) from ofBits_top]
  exact Finset.fold_congr fun p _ => congrArg v (lift_row b p)

/-- The place numbers, as the selection makes them. -/
theorem places_apply (b : Fin 128) (p : Fin 36) : k0_pay15 (F := Ideal) (ix2 b p) = ((p.val : ℝ) : EReal) := by
  have e : k0_pay15 (F := Ideal) (ix2 b p) = (((BitVec.ofNat 32 p.val).toInt : ℝ) : EReal) := by
    show ((((iota .tc S128x36 32 [1] iota_S128x36_d1_w32) (ix2 b p)).toInt : ℝ) : EReal) = _
    rw [iota_single_apply]
  have h : (BitVec.ofNat 32 p.val).toInt = (p.val : ℤ) := by
    rw [BitVec.toInt_ofNat', Int.bmod_eq_of_le] <;> omega
  rw [e, h]
  norm_cast

/-- One round's picks, as the selection computes them: the row's maximum, then the least place that reaches it. -/
def pickCol (v : FVec Ideal S128x36 .f32) : FVec Ideal S128x1 .f32 :=
  shapeCast S128x1 (multiReduction .minimumf [1] S128
    (select (cmpf .oeq v (broadcastTo S128x36 (shapeCast S128x1
      (multiReduction .maximumf [1] S128 v 0xFF800000#32 reduces_S128x36_S128 (.inl rfl) rfl) shapeCasts_S128_S128x1) broadcasts_S128x1_S128x36))
      (k0_pay15 (F := Ideal)) (broadcast S128x36 (Scalar.ofBits .f32 0x42100000#32)))
    0x7F800000#32 reduces_S128x36_S128 (.inl rfl) rfl) shapeCasts_S128_S128x1

/-- The block after a round: −∞ at the places picked. -/
def strikeCol (g : FVec Ideal S128x1 .f32) (v : FVec Ideal S128x36 .f32) : FVec Ideal S128x36 .f32 :=
  select (cmpf .oeq (k0_pay15 (F := Ideal)) (broadcastTo S128x36 g broadcasts_S128x1_S128x36))
    (broadcast S128x36 (Scalar.ofBits .f32 0xFF800000#32)) v

/-- A choice by equality of extended reals. -/
theorem select_oeq (x y : Ideal .f32) (a b : EReal) :
    Scalar.select (FloatOps.cmpf (F := Ideal) (φ := .f32) .oeq x y) a b = if (x : EReal) = y then a else b := by
  show (if BitVec.ofBool (decide ((x : EReal) = y)) = 1#1 then a else b) = _
  by_cases h : (x : EReal) = y <;> simp [h]

theorem pickCol_apply (v : FVec Ideal S128x36 .f32) (b : Fin 128) : pickCol v (ix2 b 0) = (((first (row v b)).val : ℝ) : EReal) := by
  unfold pickCol
  rw [column_apply, rowMin_apply, ← fold_min_eq]
  refine Finset.fold_congr fun p _ => ?_
  show Scalar.select (FloatOps.cmpf (F := Ideal) (φ := .f32) .oeq (v (ix2 b p)) (broadcastTo S128x36 _ _ (ix2 b p)))
    (k0_pay15 (F := Ideal) (ix2 b p)) (Ideal.ofBits .f32 0x42100000#32) = _
  rw [select_oeq, spread_apply, column_apply, rowMax_apply, places_apply, ofBits_36]

theorem strikeCol_apply (g : FVec Ideal S128x1 .f32) (v : FVec Ideal S128x36 .f32) (b : Fin 128) (k : Fin 36)
    (h : g (ix2 b 0) = ((k.val : ℝ) : EReal)) (p : Fin 36) : strikeCol g v (ix2 b p) = if p = k then ⊥ else v (ix2 b p) := by
  show Scalar.select (FloatOps.cmpf (F := Ideal) (φ := .f32) .oeq (k0_pay15 (F := Ideal) (ix2 b p)) (broadcastTo S128x36 g _ (ix2 b p)))
    (Ideal.ofBits .f32 0xFF800000#32) (v (ix2 b p)) = _
  rw [select_oeq, spread_apply, places_apply, h, ofBits_bot]
  refine if_congr ?_ rfl rfl
  rw [EReal.coe_eq_coe_iff, Nat.cast_inj, Fin.ext_iff]

/-- The block before round `r`. -/
def work (v : FVec Ideal S128x36 .f32) : ℕ → FVec Ideal S128x36 .f32
  | 0 => v
  | r + 1 => strikeCol (pickCol (work v r)) (work v r)

theorem row_work (v : FVec Ideal S128x36 .f32) (b : Fin 128) : ∀ r, row (work v r) b = left (row v b) r
  | 0 => rfl
  | r + 1 => funext fun p => by
    show strikeCol (pickCol (work v r)) (work v r) (ix2 b p) = struck (left (row v b) r) p
    rw [strikeCol_apply _ _ b _ (pickCol_apply _ b), ← row_work v b r]
    rfl

/-- Round `r` picks in every row the place that the row's rounds pick. -/
theorem round_apply (v : FVec Ideal S128x36 .f32) (r : ℕ) (b : Fin 128) :
    pickCol (work v r) (ix2 b 0) = (((chosen (row v b) r).val : ℝ) : EReal) := by
  rw [pickCol_apply, row_work]
  rfl

end Cert.Proof.Sc
-- ==== Proof.Cosine.lean ====
/- The cosines of the queries and the keys: normalised entries, and so the cosines, are real numbers whatever the arguments hold. -/
module

public import Idealize.ShloMosaic.Lib.MatmulPlain
public import Idealize.ShloMosaic.Lib.IdealHost
public import proofs.«01_k».proof.Proof.Rounds

@[expose] public section

noncomputable section

namespace Cert.Proof.Sc

open Cert.KernelIdeal Cert.KernelIdeal.Gen
open Idealize.ShloMosaic Idealize.ShloMosaic.ValueIdx

/-- An extended real that is a real number. -/
def Real' (x : EReal) : Prop := ∃ r : ℝ, x = (r : EReal)

theorem Real'.mul {x y : EReal} : Real' x → Real' y → Real' (x * y)
  | ⟨a, ha⟩, ⟨b, hb⟩ => ⟨a * b, by rw [ha, hb, EReal.coe_mul]⟩
theorem Real'.add {x y : EReal} : Real' x → Real' y → Real' (x + y)
  | ⟨a, ha⟩, ⟨b, hb⟩ => ⟨a + b, by rw [ha, hb, EReal.coe_add]⟩
theorem Real'.sum {ι : Type} (s : Finset ι) (f : ι → EReal) (h : ∀ i, Real' (f i)) : Real' (∑ i ∈ s, f i) := by
  classical
  induction s using Finset.induction_on with
  | empty => exact ⟨0, by simp⟩
  | insert a s ha ih => rw [Finset.sum_insert ha]; exact (h a).add ih
theorem Real'.ne_bot {x : EReal} : Real' x → x ≠ ⊥
  | ⟨a, ha⟩ => ha ▸ EReal.coe_ne_bot a

/-- The least divisor of the normalisation, 10⁻¹² as its float word. -/
theorem ofBits_floor : ∃ c : ℝ, 0 < c ∧ Ideal.ofBits .f32 0x2B8CBCCC#32 = (c : EReal) := by
  refine ⟨9223372 * (2 : ℝ) ^ (-63 : ℤ), by positivity, ?_⟩
  simp [Ideal.ofBits, Ideal.ieee, -EReal.coe_mul]

/-- An entry of a vector over the vector's length, the length raised to a positive number at least. -/
def over {n : ℕ} (f : Fin n → EReal) (k : Fin n) : EReal :=
  Ideal.div (f k) (max (Ideal.sqrt (∑ i, f i * f i)) (Ideal.ofBits .f32 0x2B8CBCCC#32))

theorem mul_self_nonneg' (x : EReal) : 0 ≤ x * x := by
  induction x with
  | bot => exact le_top
  | top => exact le_top
  | coe r =>
    rw [← EReal.coe_mul]
    exact_mod_cast mul_self_nonneg r

theorem over_real {n : ℕ} (f : Fin n → EReal) (k : Fin n) : Real' (over f k) := by
  obtain ⟨c, hc, e⟩ := ofBits_floor
  unfold over
  rw [e]
  have hpos : (0 : EReal) < max (Ideal.sqrt (∑ i, f i * f i)) (c : EReal) := lt_max_of_lt_right (by exact_mod_cast hc)
  rw [Ideal.div, if_neg hpos.ne']
  by_cases ht : max (Ideal.sqrt (∑ i, f i * f i)) (c : EReal) = ⊤
  · exact ⟨0, by rw [ht]; simp⟩
  have hS : (∑ i, f i * f i) ≠ ⊤ := by
    intro h
    rw [h] at ht
    simp at ht
  have hk : f k * f k ≠ ⊤ := by
    intro h
    refine hS (top_le_iff.mp ?_)
    rw [← h]
    exact Finset.single_le_sum (f := fun i => f i * f i) (fun i _ => mul_self_nonneg' (f i)) (Finset.mem_univ k)
  have hx : Real' (f k) := by
    induction h : f k with
    | bot => rw [h] at hk; exact absurd rfl hk
    | top => rw [h] at hk; exact absurd rfl hk
    | coe r => exact ⟨r, rfl⟩
  refine hx.mul ?_
  have hb : max (Ideal.sqrt (∑ i, f i * f i)) (c : EReal) ≠ ⊥ := (EReal.bot_lt_zero.trans hpos).ne'
  obtain ⟨r, hr⟩ : ∃ r : ℝ, max (Ideal.sqrt (∑ i, f i * f i)) (c : EReal) = r :=
    ⟨_, (EReal.coe_toReal ht hb).symm⟩
  rw [hr]
  exact ⟨r⁻¹, by rw [EReal.coe_inv]⟩

section Normed

variable {M : ℕ} (x : FVec Ideal ⟨2, ![M, 768]⟩ .f32) (i : Fin M) (k : Fin 768)

theorem lift_entry (h : (⟨2, ![M, 768]⟩ : Shape).Reduces [1] ⟨1, ![M]⟩) (p : Fin 768) : h.lift (ix1 i) p = ix2 i p := by
  funext a
  match a with
  | ⟨0, _⟩ => rfl
  | ⟨1, _⟩ => rfl

/-- The normalisation as the selection computes it. -/
theorem normed_apply (hr : (⟨2, ![M, 768]⟩ : Shape).Reduces [1] ⟨1, ![M]⟩) (hs : (⟨1, ![M]⟩ : Shape).ShapeCasts ⟨2, ![M, 1]⟩)
    (hb : (⟨2, ![M, 1]⟩ : Shape).Broadcasts ⟨2, ![M, 768]⟩) :
    divf x (broadcastTo ⟨2, ![M, 768]⟩ (maximumf (sqrt (shapeCast ⟨2, ![M, 1]⟩
      (multiReduction .add [1] ⟨1, ![M]⟩ (mulf x x) 0x00000000#32 hr (.inl rfl) rfl) hs))
      (broadcast ⟨2, ![M, 1]⟩ (Scalar.ofBits .f32 0x2B8CBCCC#32))) hb) (ix2 i k) = over (fun k => x (ix2 i k)) k := by
  rw [divf_apply, broadcastTo_apply _ hb (ix2 i k) (ix2 i 0) (fun a => by
    match a with
    | ⟨0, _⟩ =>
      show i.val = if M = 1 then 0 else i.val
      split <;> omega
    | ⟨1, _⟩ => rfl), maximumf_apply]
  show Ideal.div _ (max (Ideal.sqrt (shapeCast _ _ hs (ix2 i 0))) _) = _
  rw [shapeCast_apply _ hs (ix2 i 0) (ix1 i) (by
    rw [Shape.rowMajor_val_one, Shape.rowMajor_val_two]
    show i.val = i.val * 1 + 0
    omega)]
  unfold over
  congr 2
  congr 1
  refine (Ideal.multiReduction_add_single (mulf x x) _ hr _ _ _).trans ?_
  exact Finset.sum_congr rfl fun p _ => by rw [lift_entry i hr p]; rfl

/-- The normalisation as the reference computes it. -/
theorem hostNormed_apply (hr : (⟨2, ![M, 768]⟩ : Shape).ReducesTo [1] ⟨1, ![M]⟩) (hr' : (⟨2, ![M, 768]⟩ : Shape).Reduces [1] ⟨1, ![M]⟩)
    (hu : 0 < (⟨0, ![]⟩ : Shape).numel)
    (h1 : (⟨1, ![M]⟩ : Shape).BroadcastsInDim ⟨2, ![M, 1]⟩ ![0]) (h0 : (⟨0, ![]⟩ : Shape).BroadcastsInDim ⟨2, ![M, 1]⟩ ![])
    (h2 : (⟨2, ![M, 1]⟩ : Shape).BroadcastsInDim ⟨2, ![M, 768]⟩ ![0, 1]) :
    Host.divf x (broadcastInDim ⟨2, ![M, 768]⟩ ![0, 1] h2 (maximumf (Host.sqrt (broadcastInDim ⟨2, ![M, 1]⟩ ![0] h1
      (Host.reduceAdd (mulf x x) (constant ⟨0, ![]⟩ .f32 0x00000000#32) hr hu)))
      (broadcastInDim ⟨2, ![M, 1]⟩ ![] h0 (constant ⟨0, ![]⟩ .f32 0x2B8CBCCC#32)))) (ix2 i k) = over (fun k => x (ix2 i k)) k := by
  rw [hostDivf_apply, broadcastInDim_apply _ h2 _ (ix2 i k) (ix2 i 0) (fun a => by
    match a with
    | ⟨0, _⟩ =>
      show i.val = if M = 1 then 0 else i.val
      split <;> omega
    | ⟨1, _⟩ => rfl), maximumf_apply]
  show Ideal.div _ (max (Ideal.sqrt (broadcastInDim _ _ h1 _ (ix2 i 0))) _) = _
  rw [broadcastInDim_apply _ h1 _ (ix2 i 0) (ix1 i) (fun a => by
    match a with
    | ⟨0, _⟩ =>
      show i.val = if M = 1 then 0 else i.val
      split <;> omega)]
  unfold over
  congr 2
  congr 1
  refine (Ideal.hostReduceAdd_single hr hr' (mulf x x) _ _).trans ?_
  rw [constant_apply, Ideal.ofBits_zero_f32, zero_add]
  exact Finset.sum_congr rfl fun p _ => by rw [lift_entry i hr' p]; rfl

end Normed

/-- The cosines as the selection computes them. -/
abbrev cosines (x : FVec Ideal S128x768 .f32) (k : FVec Ideal S36x768 .f32) : FVec Ideal S128x36 .f32 := k0_pay16 (k0_pay3 x) k

/-- The cosine of query `b` and key `p`. -/
def cosine (x : FVec Ideal S128x768 .f32) (k : FVec Ideal S36x768 .f32) (b : Fin 128) (p : Fin 36) : EReal :=
  ∑ j : Fin 768, over (fun j => x (ix2 b j)) j * over (fun j => k (ix2 p j)) j

theorem cosine_real (x k b p) : Real' (cosine x k b p) := Real'.sum _ _ fun j => (over_real _ j).mul (over_real _ j)

theorem cosines_apply (x : FVec Ideal S128x768 .f32) (k : FVec Ideal S36x768 .f32) (b : Fin 128) (p : Fin 36) :
    cosines x k (ix2 b p) = cosine x k b p := by
  refine (Ideal.matmul_transposedRhs_apply (M := 128) (K := 768) (N := 36) none (k0_pay3 x) _ (constant S128x36 .f32 0x00000000#32) b p).trans ?_
  rw [constant_apply, Ideal.ofBits_zero_f32, zero_add]
  refine Finset.sum_congr rfl fun j _ => congrArg₂ _ ?_ ?_
  · exact normed_apply x b j reduces_S128x768_S128 shapeCasts_S128_S128x1 broadcasts_S128x1_S128x768
  · exact normed_apply k p j reduces_S36x768_S36 shapeCasts_S36_S36x1 broadcasts_S36x1_S36x768

end Cert.Proof.Sc
-- ==== Proof.Words.lean ====
/- Word arithmetic of the row numbers: quotients and remainders of small numbers, as the selection spells them. -/
module

public import Idealize.ShloMosaic.Lib.ValueIdx
public import Idealize.ShloMosaic.Lib.Pipeline.Value
public import proofs.«01_k».proof.Proof.Gen.KernelIdeal.Skeleton

@[expose] public section

noncomputable section

namespace Cert.Proof.Sc

open Cert.KernelIdeal Cert.KernelIdeal.Gen
open Idealize.ShloMosaic Idealize.ShloMosaic.ValueIdx

/-- The remainder with the divisor's sign. -/
@[reducible] def remW (y n : BitVec 32) : BitVec 32 :=
  Scalar.select (IntOp.andi (IntOp.xori (IntOp.cmpi .slt (IntOp.remsi .vector n y) 0#32) (IntOp.cmpi .slt y 0#32))
    (IntOp.cmpi .ne (IntOp.remsi .vector n y) 0#32)) (IntOp.addi (IntOp.remsi .vector n y) y) (IntOp.remsi .vector n y)

/-- A number's sign. -/
@[reducible] def signW (n : BitVec 32) : BitVec 32 :=
  IntOp.subi ((IntOp.cmpi .sgt n 0#32).setWidth 32) ((IntOp.cmpi .slt n 0#32).setWidth 32)

/-- The quotient rounded towards −∞. -/
@[reducible] def divW (y n : BitVec 32) : BitVec 32 :=
  Scalar.select (IntOp.andi (IntOp.cmpi .ne (signW n) (signW y)) (IntOp.cmpi .ne (IntOp.remsi .vector n y) 0#32))
    (IntOp.subi (IntOp.divsi .vector n y) 1#32) (IntOp.divsi .vector n y)

theorem remW_56 : ∀ n : Fin 336, remW 56#32 (BitVec.ofNat 32 n.val) = BitVec.ofNat 32 (n.val % 56) := by decide +kernel
theorem divW_56 : ∀ n : Fin 336, divW 56#32 (BitVec.ofNat 32 n.val) = BitVec.ofNat 32 (n.val / 56) := by decide +kernel
theorem remW_10 : ∀ n : Fin 56, remW 10#32 (BitVec.ofNat 32 n.val) = BitVec.ofNat 32 (n.val % 10) := by decide +kernel
theorem divW_10 : ∀ n : Fin 56, divW 10#32 (BitVec.ofNat 32 n.val) = BitVec.ofNat 32 (n.val / 10) := by decide +kernel
theorem remW_4320 : ∀ n : Fin 12655, remW 4320#32 (BitVec.ofNat 32 n.val) = BitVec.ofNat 32 (n.val % 4320) := by decide +kernel
theorem slt_50 : ∀ n : Fin 56, IntOp.cmpi .slt (BitVec.ofNat 32 n.val) 50#32 = BitVec.ofBool (decide (n.val < 50)) := by decide +kernel

/-- The column numbers. -/
theorem iota_col (b : Fin 128) (j : Fin 336) : iota .tc S128x336 32 [1] iota_S128x336_d1_w32 (ix2 b j) = BitVec.ofNat 32 j.val :=
  iota_single_apply ..
/-- The row numbers. -/
theorem iota_row (b : Fin 128) (j : Fin 336) : iota .tc S128x336 32 [0] iota_S128x336_d0_w32 (ix2 b j) = BitVec.ofNat 32 b.val :=
  iota_single_apply ..

theorem pay4_apply (b : Fin 128) (j : Fin 336) : k0_pay4 (ix2 b j) = BitVec.ofNat 32 (j.val / 56) := by
  rw [← divW_56 j, ← iota_col b j]; rfl

/-- The place within a column's 56 slots. -/
theorem pay5_apply (b : Fin 128) (j : Fin 336) : k0_pay8 56#32 k0_pay5 k0_pay6 k0_pay7 0#1 (ix2 b j) = BitVec.ofNat 32 (j.val % 56) := by
  rw [← remW_56 j, ← iota_col b j]; rfl

theorem pay9_apply (b : Fin 128) (j : Fin 336) :
    k0_pay9 56#32 k0_pay5 k0_pay6 k0_pay7 0#1 (ix2 b j) = BitVec.ofNat 32 (j.val % 56 / 10) := by
  rw [← divW_10 ⟨j.val % 56, Nat.mod_lt _ (by decide)⟩, ← pay5_apply b j]; rfl

theorem pay10_apply (b : Fin 128) (j : Fin 336) :
    k0_pay10 56#32 k0_pay5 k0_pay6 k0_pay7 0#1 (ix2 b j) = BitVec.ofBool (decide (j.val % 56 < 50)) := by
  rw [← slt_50 ⟨j.val % 56, Nat.mod_lt _ (by decide)⟩, ← pay5_apply b j]; rfl

theorem pay13_apply (b : Fin 128) (j : Fin 336) :
    k0_pay13 k0_pay4 10#32 (k0_pay11 56#32 k0_pay5 k0_pay6 k0_pay7 0#1) (k0_pay12 56#32 k0_pay5 k0_pay6 k0_pay7 0#1) (ix2 b j)
      = BitVec.ofNat 32 (j.val % 56 % 10 * 6 + j.val / 56) := by
  have e : k0_pay13 k0_pay4 10#32 (k0_pay11 56#32 k0_pay5 k0_pay6 k0_pay7 0#1) (k0_pay12 56#32 k0_pay5 k0_pay6 k0_pay7 0#1) (ix2 b j)
      = remW 10#32 (k0_pay8 56#32 k0_pay5 k0_pay6 k0_pay7 0#1 (ix2 b j)) * 6#32 + k0_pay4 (ix2 b j) := rfl
  rw [e, pay5_apply, pay4_apply, remW_10 ⟨j.val % 56, Nat.mod_lt _ (by decide)⟩, BitVec.ofNat_add, BitVec.ofNat_mul]

theorem pay14_apply (b : Fin 128) (j : Fin 336) :
    k0_pay14 (iota .tc S128x336 32 [1] iota_S128x336_d1_w32) (ix2 b j) = BitVec.ofNat 32 ((j.val + b.val * 97) % 4320) := by
  have e : k0_pay14 (iota .tc S128x336 32 [1] iota_S128x336_d1_w32) (ix2 b j)
      = remW 4320#32 (iota .tc S128x336 32 [1] iota_S128x336_d1_w32 (ix2 b j) + iota .tc S128x336 32 [0] iota_S128x336_d0_w32 (ix2 b j) * 97#32) := rfl
  have h : j.val + b.val * 97 < 12655 := by omega
  rw [e, iota_col, iota_row, ← remW_4320 ⟨_, h⟩, BitVec.ofNat_add, BitVec.ofNat_mul]

end Cert.Proof.Sc
-- ==== Proof.Setup.lean ====
/- The launch's set-up: the program as the SparseCore launch theorem sees it, and the ghost algebra the proof runs in. -/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.Sem
open Idealize.ShloMosaic.Rounds

variable {F : FTy → Type}

/-- The labels of the two TensorCore pipelines and the kernels' own. -/
abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and none of them is scoped, and no buffer is the tasks' in common. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, and the transfers' counters, side by side. -/
abbrev UH : Type := URounds (GSem nD τ sig) ℕ
abbrev UP : Type := URounds (GSem nD τ sig) Unit
abbrev UU : Type := UH × (UP × Counters)

/-- Where the handshakes' rounds sit, -/
abbrev EH : Emb UH (MT nD τ sig (HIx 1) (Elt F) ℕ UU ℕ) := embL
/-- and the pipelines'. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; unfold embR; infer_instance

end Cert.Proof.Sc

end
-- ==== Proof.Region.lean ====
/- What the two TensorCore regions of the program have in common: the invariant their bodies are run under, and what the
TensorCore thread owes while it is inside one of them. -/
module

public import Idealize.ShloMosaic.Lib.Pipeline.RegionsLoop
public import Idealize.ShloMosaic.Lib.Tactic
public import proofs.«01_k».proof.Proof.Setup

@[expose] public section

noncomputable section

namespace Cert.Proof.Sc

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The scoped buffers that stage nothing, at any contents, and the generator register: what a region's body keeps. -/
def keep {gr W : ℕ} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

/-- The waits a thread may have recorded before call `n`. -/
def seen (c : Dev nD) (n : ℕ) : Set (SemLoc sig × HIx 1) :=
  {p | (K (F := F)).lev (((c : Thread nD τ)), p.1) p.2 ≤ n}

/-- The TensorCore owes only starts of calls, never anything at the index local waits sit at. -/
theorem owes_none (c : Dev nD) (n : ℕ) (g : GSem nD τ sig) : (K (F := F)).Otc c n g none = 0 := by
  unfold SparseCore.Cfg.Otc
  rw [Fin.sum_univ_one]
  split
  · rw [Finset.sum_apply, Finsupp.finsetSum_apply]
    refine Finset.sum_eq_zero fun q _ => ?_
    unfold tallyAt tallyOn
    by_cases h : g = (K (F := F)).startCell c ((K (F := F)).core 0 q)
    · subst h; simp
    · rw [Pi.single_eq_of_ne h]; rfl
  · rfl

end Cert.Proof.Sc

end
-- ==== Proof.Select.lean ====
/- The first kernel call: the picks of every query, as four lists of row numbers, and the loss. -/
module

public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp
public import proofs.«01_k».proof.Proof.Region
public import proofs.«01_k».proof.Proof.Gen.KernelIdeal.Skeleton

@[expose] public section

set_option maxRecDepth 16384

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region

-- what the arrays hold when the region is entered
variable (V : (c : Dev nD) → (b : Ref sig .tc) → Buf (Elt F) ((c : Thread nD τ).loc b))

/-- The block of an argument or result that a window shows at a grid step. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An argument's block holds, before the step, what its window fetched. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole block of queries. -/
abbrev r0_0 : Rect S128x768 := Rect.unit (s := S128x768) ![0, 0] S128x768.size inb_S128x768_S128x768_0_0
/-- The whole block of a table's keys. -/
abbrev r0_1 : Rect S36x768 := Rect.unit (s := S36x768) ![0, 0] S36x768.size inb_S36x768_S36x768_0_0
/-- The whole block of a list of row numbers. -/
abbrev r0_2 : Rect S128x336 := Rect.unit (s := S128x336) ![0, 0] S128x336.size inb_S128x336_S128x336_0_0
/-- The whole block of the loss. -/
abbrev r0_3 : Rect S8x128 := Rect.unit (s := S8x128) ![0, 0] S8x128.size inb_S8x128_S8x128_0_0

/-! ## What the body computes, step by step, from the queries and the two tables' keys -/

/-- The queries, each divided by its norm. -/
def unitQueries (x0 : Vec F S128x768 .f32) (x1 : Vec F S36x768 .f32) (x2 : Vec F S36x768 .f32) : FVec F S128x768 .f32 :=
  k0_pay3 (View.ld x0 r0_0)
/-- The remainders of the 336 slots' numbers by 56, as the signed operation leaves them. -/
def laneRem (x0 : Vec F S128x768 .f32) (x1 : Vec F S36x768 .f32) (x2 : Vec F S36x768 .f32) : IVec S128x336 32 :=
  k0_pay5
/-- Which of those remainders are not zero. -/
def laneRemNe (x0 : Vec F S128x768 .f32) (x1 : Vec F S36x768 .f32) (x2 : Vec F S36x768 .f32) : IVec S128x336 1 :=
  k0_pay6
/-- Which of those remainders are negative: none. -/
def laneRemNeg (x0 : Vec F S128x768 .f32) (x1 : Vec F S36x768 .f32) (x2 : Vec F S36x768 .f32) : IVec S128x336 1 :=
  k0_pay7
/-- The round whose pick a slot's row belongs to: its place in its column, by tens. -/
def roundOf (x0 : Vec F S128x768 .f32) (x1 : Vec F S36x768 .f32) (x2 : Vec F S36x768 .f32) : IVec S128x336 32 :=
  k0_pay9 (Scalar.select (Scalar.cmpi .eq 56#32 0#32) 1#32 56#32) (laneRem x0 x1 x2) (laneRemNe x0 x1 x2) (laneRemNeg x0 x1 x2) (Scalar.cmpi .slt (Scalar.select (Scalar.cmpi .eq 56#32 0#32) 1#32 56#32) 0#32)
/-- Which slots are among the fifty of their column. -/
def slotUsed (x0 : Vec F S128x768 .f32) (x1 : Vec F S36x768 .f32) (x2 : Vec F S36x768 .f32) : IVec S128x336 1 :=
  k0_pay10 (Scalar.select (Scalar.cmpi .eq 56#32 0#32) 1#32 56#32) (laneRem x0 x1 x2) (laneRemNe x0 x1 x2) (laneRemNeg x0 x1 x2) (Scalar.cmpi .slt (Scalar.select (Scalar.cmpi .eq 56#32 0#32) 1#32 56#32) 0#32)
/-- A slot's place inside its pick's block of the table. -/
def slotPlace (x0 : Vec F S128x768 .f32) (x1 : Vec F S36x768 .f32) (x2 : Vec F S36x768 .f32) : IVec S128x336 32 :=
  k0_pay13 k0_pay4 (Scalar.select (Scalar.cmpi .eq 10#32 0#32) 1#32 10#32) (k0_pay11 (Scalar.select (Scalar.cmpi .eq 56#32 0#32) 1#32 56#32) (laneRem x0 x1 x2) (laneRemNe x0 x1 x2) (laneRemNeg x0 x1 x2) (Scalar.cmpi .slt (Scalar.select (Scalar.cmpi .eq 56#32 0#32) 1#32 56#32) 0#32)) (k0_pay12 (Scalar.select (Scalar.cmpi .eq 56#32 0#32) 1#32 56#32) (laneRem x0 x1 x2) (laneRemNe x0 x1 x2) (laneRemNeg x0 x1 x2) (Scalar.cmpi .slt (Scalar.select (Scalar.cmpi .eq 56#32 0#32) 1#32 56#32) 0#32))
/-- The place that a slot outside the fifty names. -/
def padPlace (x0 : Vec F S128x768 .f32) (x1 : Vec F S36x768 .f32) (x2 : Vec F S36x768 .f32) : IVec S128x336 32 :=
  k0_pay14 (iota .tc S128x336 32 [1] iota_S128x336_d1_w32)
/-- The keys' numbers, as floats, in every row. -/
def keyNumbers (x0 : Vec F S128x768 .f32) (x1 : Vec F S36x768 .f32) (x2 : Vec F S36x768 .f32) : FVec F S128x36 .f32 :=
  k0_pay15 (F := F)
/-- The cosines of the queries and the first table's keys. -/
def cosines1 (x0 : Vec F S128x768 .f32) (x1 : Vec F S36x768 .f32) (x2 : Vec F S36x768 .f32) : FVec F S128x36 .f32 :=
  k0_pay16 (unitQueries x0 x1 x2) (View.ld x1 r0_1)
/-- The first table's keys that attain their row's greatest cosine, by number, and 36 for the others. -/
def greatest1 (x0 : Vec F S128x768 .f32) (x1 : Vec F S36x768 .f32) (x2 : Vec F S36x768 .f32) : FVec F S128x36 .f32 :=
  k0_pay17 (unitQueries x0 x1 x2) (View.ld x1 r0_1)
/-- The first table's picks of round 0. -/
def pick1_0 (x0 : Vec F S128x768 .f32) (x1 : Vec F S36x768 .f32) (x2 : Vec F S36x768 .f32) : FVec F S128x1 .f32 :=
  k0_pay18 (greatest1 x0 x1 x2)
/-- The first table's picks of round 1. -/
def pick1_1 (x0 : Vec F S128x768 .f32) (x1 : Vec F S36x768 .f32) (x2 : Vec F S36x768 .f32) : FVec F S128x1 .f32 :=
  k0_pay20 (keyNumbers x0 x1 x2) (cosines1 x0 x1 x2) (greatest1 x0 x1 x2)
/-- The first table's picks of round 2. -/
def pick1_2 (x0 : Vec F S128x768 .f32) (x1 : Vec F S36x768 .f32) (x2 : Vec F S36x768 .f32) : FVec F S128x1 .f32 :=
  k0_pay22 (keyNumbers x0 x1 x2) (cosines1 x0 x1 x2) (greatest1 x0 x1 x2)
/-- The first table's picks of round 3. -/
def pick1_3 (x0 : Vec F S128x768 .f32) (x1 : Vec F S36x768 .f32) (x2 : Vec F S36x768 .f32) : FVec F S128x1 .f32 :=
  k0_pay24 (keyNumbers x0 x1 x2) (cosines1 x0 x1 x2) (greatest1 x0 x1 x2)
/-- The first table's picks of round 4. -/
def pick1_4 (x0 : Vec F S128x768 .f32) (x1 : Vec F S36x768 .f32) (x2 : Vec F S36x768 .f32) : FVec F S128x1 .f32 :=
  k0_pay26 (keyNumbers x0 x1 x2) (k0_pay25 (keyNumbers x0 x1 x2) (cosines1 x0 x1 x2) (greatest1 x0 x1 x2))
/-- The first table's picks of rounds 0 to 3, each in its round's slots. -/
def picked1 (x0 : Vec F S128x768 .f32) (x1 : Vec F S36x768 .f32) (x2 : Vec F S36x768 .f32) : FVec F S128x336 .f32 :=
  k0_pay32 (roundOf x0 x1 x2) (pick1_2 x0 x1 x2) (pick1_3 x0 x1 x2) (k0_pay29 (roundOf x0 x1 x2) (pick1_0 x0 x1 x2) (pick1_1 x0 x1 x2))
/-- Which slots belong to round 4. -/
def lastRound (x0 : Vec F S128x768 .f32) (x1 : Vec F S36x768 .f32) (x2 : Vec F S36x768 .f32) : IVec S128x336 1 :=
  k0_pay34 (roundOf x0 x1 x2)
/-- The first table's picks of round 4, in every slot. -/
def lastPick1 (x0 : Vec F S128x768 .f32) (x1 : Vec F S36x768 .f32) (x2 : Vec F S36x768 .f32) : FVec F S128x336 .f32 :=
  k0_pay35 (pick1_4 x0 x1 x2)
/-- Zero in every slot. -/
def noPick (x0 : Vec F S128x768 .f32) (x1 : Vec F S36x768 .f32) (x2 : Vec F S36x768 .f32) : FVec F S128x336 .f32 :=
  k0_pay36 (F := F)
/-- The second table's picks of round 0. -/
def pick2_0 (x0 : Vec F S128x768 .f32) (x1 : Vec F S36x768 .f32) (x2 : Vec F S36x768 .f32) : FVec F S128x1 .f32 :=
  k0_pay42 (unitQueries x0 x1 x2) (keyNumbers x0 x1 x2) (View.ld x2 r0_1)
/-- The second table's cosines without the picks of round 0. -/
def masked2 (x0 : Vec F S128x768 .f32) (x1 : Vec F S36x768 .f32) (x2 : Vec F S36x768 .f32) : FVec F S128x36 .f32 :=
  k0_pay43 (unitQueries x0 x1 x2) (keyNumbers x0 x1 x2) (View.ld x2 r0_1)
/-- The greatest of those in every row. -/
def greatest2 (x0 : Vec F S128x768 .f32) (x1 : Vec F S36x768 .f32) (x2 : Vec F S36x768 .f32) : FVec F S128x1 .f32 :=
  k0_pay44 (unitQueries x0 x1 x2) (keyNumbers x0 x1 x2) (View.ld x2 r0_1)
/-- The second table's picks of round 1. -/
def pick2_1 (x0 : Vec F S128x768 .f32) (x1 : Vec F S36x768 .f32) (x2 : Vec F S36x768 .f32) : FVec F S128x1 .f32 :=
  k0_pay45 (keyNumbers x0 x1 x2) (masked2 x0 x1 x2) (greatest2 x0 x1 x2)
/-- The second table's picks of round 2. -/
def pick2_2 (x0 : Vec F S128x768 .f32) (x1 : Vec F S36x768 .f32) (x2 : Vec F S36x768 .f32) : FVec F S128x1 .f32 :=
  k0_pay47 (keyNumbers x0 x1 x2) (masked2 x0 x1 x2) (greatest2 x0 x1 x2)
/-- The second table's picks of round 3. -/
def pick2_3 (x0 : Vec F S128x768 .f32) (x1 : Vec F S36x768 .f32) (x2 : Vec F S36x768 .f32) : FVec F S128x1 .f32 :=
  k0_pay49 (keyNumbers x0 x1 x2) (masked2 x0 x1 x2) (greatest2 x0 x1 x2)
/-- The second table's picks of round 4. -/
def pick2_4 (x0 : Vec F S128x768 .f32) (x1 : Vec F S36x768 .f32) (x2 : Vec F S36x768 .f32) : FVec F S128x1 .f32 :=
  k0_pay50 (keyNumbers x0 x1 x2) (masked2 x0 x1 x2) (greatest2 x0 x1 x2)
/-- The second table's cosines, added up over the queries. -/
def keySums2 (x0 : Vec F S128x768 .f32) (x1 : Vec F S36x768 .f32) (x2 : Vec F S36x768 .f32) : FVec F S1x36 .f32 :=
  k0_pay51 (k0_pay41 (unitQueries x0 x1 x2) (View.ld x2 r0_1))
/-- The second table's picks of rounds 0 and 1, each in its round's slots. -/
def picked2 (x0 : Vec F S128x768 .f32) (x1 : Vec F S36x768 .f32) (x2 : Vec F S36x768 .f32) : FVec F S128x336 .f32 :=
  k0_pay52 (roundOf x0 x1 x2) (pick2_0 x0 x1 x2) (pick2_1 x0 x1 x2) (Scalar.ofBits .f32 0x00000000#32)

/-- The first list: rows of the first table's first halves. -/
def out0_3 (x0 : Vec F S128x768 .f32) (x1 : Vec F S36x768 .f32) (x2 : Vec F S36x768 .f32) : Vec F S128x336 .i32 :=
  View.canon [⟨r0_2, k0_pay38 (slotUsed x0 x1 x2) (slotPlace x0 x1 x2) (padPlace x0 x1 x2) (picked1 x0 x1 x2) (lastRound x0 x1 x2) (lastPick1 x0 x1 x2) (noPick x0 x1 x2)⟩]

/-- One store of the whole block covers it. -/
theorem cover0_3 (p0 : Vec F S128x336 .i32) (y : S128x336.Idx) :
    ∃ pc ∈ ([⟨r0_2, p0⟩] : List (View.Piece (Elt F) S128x336 .i32)), y ∈ pc.1.set :=
  View.cover_of_tiled [⟨r0_2, p0⟩] S128x336.size (by rfl) y

/-- The second list: rows of the first table's second halves. -/
def out0_4 (x0 : Vec F S128x768 .f32) (x1 : Vec F S36x768 .f32) (x2 : Vec F S36x768 .f32) : Vec F S128x336 .i32 :=
  View.canon [⟨r0_2, k0_pay39 (slotUsed x0 x1 x2) (slotPlace x0 x1 x2) (padPlace x0 x1 x2) (picked1 x0 x1 x2) (lastRound x0 x1 x2) (lastPick1 x0 x1 x2) (noPick x0 x1 x2)⟩]

theorem cover0_4 (p0 : Vec F S128x336 .i32) (y : S128x336.Idx) :
    ∃ pc ∈ ([⟨r0_2, p0⟩] : List (View.Piece (Elt F) S128x336 .i32)), y ∈ pc.1.set :=
  View.cover_of_tiled [⟨r0_2, p0⟩] S128x336.size (by rfl) y

/-- The third list: rows of the second table's first halves. -/
def out0_5 (x0 : Vec F S128x768 .f32) (x1 : Vec F S36x768 .f32) (x2 : Vec F S36x768 .f32) : Vec F S128x336 .i32 :=
  View.canon [⟨r0_2, k0_pay56 (roundOf x0 x1 x2) (slotUsed x0 x1 x2) (slotPlace x0 x1 x2) (padPlace x0 x1 x2) (pick2_2 x0 x1 x2) (pick2_3 x0 x1 x2) (pick2_4 x0 x1 x2) (picked2 x0 x1 x2) 2#32⟩]

theorem cover0_5 (p0 : Vec F S128x336 .i32) (y : S128x336.Idx) :
    ∃ pc ∈ ([⟨r0_2, p0⟩] : List (View.Piece (Elt F) S128x336 .i32)), y ∈ pc.1.set :=
  View.cover_of_tiled [⟨r0_2, p0⟩] S128x336.size (by rfl) y

/-- The fourth list: rows of the second table's second halves. -/
def out0_6 (x0 : Vec F S128x768 .f32) (x1 : Vec F S36x768 .f32) (x2 : Vec F S36x768 .f32) : Vec F S128x336 .i32 :=
  View.canon [⟨r0_2, k0_pay1 (slotUsed x0 x1 x2) (padPlace x0 x1 x2) (k0_pay55 (roundOf x0 x1 x2) (slotPlace x0 x1 x2) (pick2_2 x0 x1 x2) (pick2_3 x0 x1 x2) (pick2_4 x0 x1 x2) (picked2 x0 x1 x2) 2#32)⟩]

theorem cover0_6 (p0 : Vec F S128x336 .i32) (y : S128x336.Idx) :
    ∃ pc ∈ ([⟨r0_2, p0⟩] : List (View.Piece (Elt F) S128x336 .i32)), y ∈ pc.1.set :=
  View.cover_of_tiled [⟨r0_2, p0⟩] S128x336.size (by rfl) y

/-- The loss, in every place of its block. -/
def out0_7 (x0 : Vec F S128x768 .f32) (x1 : Vec F S36x768 .f32) (x2 : Vec F S36x768 .f32) : Vec F S8x128 .f32 :=
  View.canon [⟨r0_3, k0_pay2 (k0_pay40 (k0_pay33 (keyNumbers x0 x1 x2) (pick1_3 x0 x1 x2) (pick1_4 x0 x1 x2) (k0_pay27 (cosines1 x0 x1 x2)) (k0_pay28 (keyNumbers x0 x1 x2) (cosines1 x0 x1 x2) (pick1_0 x0 x1 x2) (pick1_1 x0 x1 x2)) (k0_pay30 (keyNumbers x0 x1 x2) (pick1_2 x0 x1 x2)) (Scalar.ofBits .f32 0x00000000#32) (k0_pay31 (cosines1 x0 x1 x2)))) (k0_pay54 (keyNumbers x0 x1 x2) (pick2_3 x0 x1 x2) (pick2_4 x0 x1 x2) (keySums2 x0 x1 x2) (k0_pay53 (keyNumbers x0 x1 x2) (pick2_0 x0 x1 x2) (pick2_1 x0 x1 x2) (pick2_2 x0 x1 x2) (keySums2 x0 x1 x2)))⟩]

theorem cover0_7 (p0 : Vec F S8x128 .f32) (y : S8x128.Idx) :
    ∃ pc ∈ ([⟨r0_3, p0⟩] : List (View.Piece (Elt F) S8x128 .f32)), y ∈ pc.1.set :=
  View.cover_of_tiled [⟨r0_3, p0⟩] S8x128.size (by rfl) y

set_option maxHeartbeats 1000000 in
/-- The body, run: the arguments' blocks stay, the results' blocks hold the four lists and the loss. -/
theorem sound_kernel0 (c : Dev nD) (E : Set ℕ) (arg0 : Memref sig .tc .vmem S128x768 .f32) (harg0 : arg0.IsWhole) (arg1 : Memref sig .tc .vmem S36x768 .f32) (harg1 : arg1.IsWhole) (arg2 : Memref sig .tc .vmem S36x768 .f32) (harg2 : arg2.IsWhole) (arg3 : Memref sig .tc .vmem S128x336 .i32) (harg3 : arg3.IsWhole) (arg4 : Memref sig .tc .vmem S128x336 .i32) (harg4 : arg4.IsWhole) (arg5 : Memref sig .tc .vmem S128x336 .i32) (harg5 : arg5.IsWhole) (arg6 : Memref sig .tc .vmem S128x336 .i32) (harg6 : arg6.IsWhole) (arg7 : Memref sig .tc .vmem S8x128 .f32) (harg7 : arg7.IsWhole)
    (x0 : Vec F S128x768 .f32) (x1 : Vec F S36x768 .f32) (x2 : Vec F S36x768 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2) ∗ owns (c : Thread nD τ) arg4 fullShare (out0_4 x0 x1 x2) ∗ owns (c : Thread nD τ) arg5 fullShare (out0_5 x0 x1 x2) ∗ owns (c : Thread nD τ) arg6 fullShare (out0_6 x0 x1 x2) ∗ owns (c : Thread nD τ) arg7 fullShare (out0_7 x0 x1 x2)) -∗ K ⟨⟩))
      ⊢ wp frame (wpE (defs₀ (F := F)) Variants.none c none) E (cc0__tc_body arg0 harg0 arg1 harg1 arg2 harg2 arg3 harg3 arg4 harg4 arg5 harg5 arg6 harg6 arg7 harg7) K := by
  simp only [cc0__tc_body_eq_skeleton]; unfold cc0__tc_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  iexists _; isplitr
  swap; · iexact H7
  ipureintro
  refine (View.read_writes_eq_canon _ _ _ (cover0_7 _)).trans ?_
  rfl

/-- What the call's run keeps: the arrays it starts from, what each window's block holds after the step, and what the thread owes. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
    | ⟨7, _⟩ => out0_7 (iblk0 V c 0 t) (iblk0 V c 1 t) (iblk0 V c 2 t)
  Φ _ := keep spec0 c
  q _ := fullShare
  owed _ := (K (F := F)).Otc c 0
  recorded _ := seen (F := F) c 0

/-- The arrays at the start. -/
theorem A_eq0 (c : Dev nD) (w : Fin cfg0.W) : (dat0 V c).A w = V c (Pipeline.arrRef spec0 w) := by
  dsimp only [dat0]

/-- What each window's block holds after the step. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]
theorem after0_7 (c : Dev nD) (t : Fin cfg0.N) : (dat0 V c).after 7 t = out0_7 (iblk0 V c 0 t) (iblk0 V c 1 t) (iblk0 V c 2 t) := by dsimp only [dat0]

/-- What each argument's block holds before the step. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the step's body is given. -/
def bodyPre0 (c : Dev nD) (t : Fin cfg0.N) : sProp 𝕄 :=
  iprop((dat0 V c).Φ t.castSucc ∗ (dat0 V c).owesAt none t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What the step's body gives back. -/
def bodyPost0 (c : Dev nD) (t : Fin cfg0.N) : sProp 𝕄 :=
  iprop((dat0 V c).Φ t.succ ∗ (dat0 V c).owesAt none t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The step's body, on the blocks that the windows show. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt none t.succ = (dat0 V c).owesAt none t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row0 (t : Fin cfg0.N) :
    defs₀ (F := F) .tc cfg0.body (cfg0.bodyArgs t (cfg0.slots t)) = bodyAt0 t := by
  rfl

/-- The step's body meets what the call asks of it. -/
theorem body_obligation0 (c : Dev nD) : BodyObligation (dat0 (F := F) V c) (defs₀ (F := F)) Variants.none none Set.univ := fun t => by
  rw [bigSep_W0, bigSep_W0, defs₀_row0]
  exact triple_restated (sound_body0 V c t) rfl .rfl fun _ => .rfl

end Region

end Cert.Proof.Sc

end
-- ==== Proof.Lists.lean ====
/- The four lists of row numbers that the selection leaves, entry by entry over the extended reals. -/
module

public import Idealize.ShloMosaic.Lib.Pipeline.ValueKit.Basic
public import proofs.«01_k».proof.Proof.Cosine
public import proofs.«01_k».proof.Proof.Words
public import proofs.«01_k».proof.Proof.Select

@[expose] public section

noncomputable section

namespace Cert.Proof.Sc

open Cert.KernelIdeal Cert.KernelIdeal.Gen
open Idealize.ShloMosaic Idealize.ShloMosaic.ValueIdx

/-- One round's share of the table's row: the picks where the place belongs to the round, zero elsewhere. -/
def lane (seg : IVec S128x336 32) (t : BitVec 32) (g : FVec Ideal S128x1 .f32) : FVec Ideal S128x336 .f32 :=
  select (cmpi .eq seg (broadcast S128x336 t))
    (broadcastTo S128x336 (shapeCast S128x1 g shapeCasts_S128x1_S128x1) broadcasts_S128x1_S128x336)
    (broadcast S128x336 (Scalar.ofBits .f32 0x00000000#32))

theorem lane_apply (seg : IVec S128x336 32) (t : BitVec 32) (g : FVec Ideal S128x1 .f32) (b : Fin 128) (j : Fin 336) :
    lane seg t g (ix2 b j) = if seg (ix2 b j) = t then (g (ix2 b 0) : EReal) else 0 := by
  show Scalar.select (IntOp.cmpi .eq (seg (ix2 b j)) t) (broadcastTo S128x336 _ broadcasts_S128x1_S128x336 (ix2 b j)) (Ideal.ofBits .f32 0x00000000#32) = _
  rw [broadcastTo_apply _ broadcasts_S128x1_S128x336 (ix2 b j) (ix2 b 0) (fun a => by
    match a with
    | ⟨0, _⟩ => rfl
    | ⟨1, _⟩ => rfl), shapeCast_self, Ideal.ofBits_zero_f32]
  show (if BitVec.ofBool (seg (ix2 b j) == t) = 1#1 then _ else _) = _
  by_cases h : seg (ix2 b j) = t
  · simp [h]
  · rw [if_neg h, beq_eq_false_iff_ne.mpr h]; rfl

/-- A small number through the float format and back. -/
theorem fptosi_nat (n : ℕ) (h : n < 2 ^ 31) : Ideal.fptosi 32 (((n : ℝ)) : EReal) = BitVec.ofNat 32 n := by
  rw [Ideal.fptosi, Ideal.toIntClamped_coe, if_pos (by positivity), Int.floor_natCast,
    min_eq_right (by norm_num; omega), max_eq_right (by norm_num), BitVec.ofInt_natCast]

/-- The five rounds' shares added up. -/
def lanes (seg : IVec S128x336 32) (g0 g1 g2 g3 g4 : FVec Ideal S128x1 .f32) : FVec Ideal S128x336 .f32 :=
  addf (addf (addf (addf (addf (broadcast S128x336 (Scalar.ofBits .f32 0x00000000#32)) (lane seg 0#32 g0)) (lane seg 1#32 g1))
    (lane seg 2#32 g2)) (lane seg 3#32 g3)) (lane seg 4#32 g4)

/-- The sum gives, at a place of round `s`, that round's pick. -/
theorem lanes_apply (seg : IVec S128x336 32) (v : FVec Ideal S128x36 .f32) (b : Fin 128) (j : Fin 336) (s : ℕ) (hs : s < 5)
    (hseg : seg (ix2 b j) = BitVec.ofNat 32 s) :
    lanes seg (pickCol (work v 0)) (pickCol (work v 1)) (pickCol (work v 2)) (pickCol (work v 3)) (pickCol (work v 4)) (ix2 b j)
      = (((chosen (row v b) s).val : ℝ) : EReal) := by
  unfold lanes
  simp only [addf_apply, lane_apply, hseg, round_apply]
  show Ideal.ofBits .f32 0x00000000#32 + _ + _ + _ + _ + _ = _
  rw [Ideal.ofBits_zero_f32]
  interval_cases s <;> simp

section Outputs

variable (x0 : Vec Ideal S128x768 .f32) (x1 x2 : Vec Ideal S36x768 .f32)

/-- The place of the table that slot `j` of row `b` names, `half` rows into the pick's block: the pick's block while the slot
    is one of the fifty of its column, a place anywhere otherwise. -/
def slot (k : ℕ → Fin 36) (half : ℕ) (b : Fin 128) (j : Fin 336) : ℕ :=
  if j.val % 56 < 50 then (k (j.val % 56 / 10)).val * 120 + (j.val % 56 % 10 * 6 + j.val / 56) + half else (j.val + b.val * 97) % 4320

theorem slot_lt (k : ℕ → Fin 36) (half : ℕ) (hh : half ≤ 60) (b : Fin 128) (j : Fin 336) : slot k half b j < 4320 := by
  unfold slot
  split
  · have := (k (j.val % 56 / 10)).isLt
    omega
  · exact Nat.mod_lt _ (by decide)

/-- The picks of query `b` among the keys of table `k`. -/
abbrev picks (k : FVec Ideal S36x768 .f32) (b : Fin 128) : ℕ → Fin 36 := chosen (row (cosines x0 k) b)

theorem ld0 : View.ld x0 r0_0 = x0 := View.ld_unit_lit _ _ (by decide)
theorem ld1 (x : Vec Ideal S36x768 .f32) : View.ld x r0_1 = x := View.ld_unit_lit _ _ (by decide)

/-! The selection's own names for the picks are the rounds'. -/
theorem pick1_0_eq : pick1_0 (F := Ideal) x0 x1 x2 = pickCol (work (cosines x0 x1) 0) := by
  unfold pick1_0 greatest1 unitQueries; rw [ld0, ld1]; rfl
theorem pick1_1_eq : pick1_1 (F := Ideal) x0 x1 x2 = pickCol (work (cosines x0 x1) 1) := by
  unfold pick1_1 greatest1 cosines1 unitQueries; rw [ld0, ld1]; rfl
theorem pick1_2_eq : pick1_2 (F := Ideal) x0 x1 x2 = pickCol (work (cosines x0 x1) 2) := by
  unfold pick1_2 greatest1 cosines1 unitQueries; rw [ld0, ld1]; rfl
theorem pick1_3_eq : pick1_3 (F := Ideal) x0 x1 x2 = pickCol (work (cosines x0 x1) 3) := by
  unfold pick1_3 greatest1 cosines1 unitQueries; rw [ld0, ld1]; rfl
theorem pick1_4_eq : pick1_4 (F := Ideal) x0 x1 x2 = pickCol (work (cosines x0 x1) 4) := by
  unfold pick1_4 greatest1 cosines1 unitQueries; rw [ld0, ld1]; rfl
theorem pick2_0_eq : pick2_0 (F := Ideal) x0 x1 x2 = pickCol (work (cosines x0 x2) 0) := by
  unfold pick2_0 unitQueries; rw [ld0, ld1]; rfl
theorem pick2_1_eq : pick2_1 (F := Ideal) x0 x1 x2 = pickCol (work (cosines x0 x2) 1) := by
  unfold pick2_1 masked2 greatest2 unitQueries; rw [ld0, ld1]; rfl
theorem pick2_2_eq : pick2_2 (F := Ideal) x0 x1 x2 = pickCol (work (cosines x0 x2) 2) := by
  unfold pick2_2 masked2 greatest2 unitQueries; rw [ld0, ld1]; rfl
theorem pick2_3_eq : pick2_3 (F := Ideal) x0 x1 x2 = pickCol (work (cosines x0 x2) 3) := by
  unfold pick2_3 masked2 greatest2 unitQueries; rw [ld0, ld1]; rfl
theorem pick2_4_eq : pick2_4 (F := Ideal) x0 x1 x2 = pickCol (work (cosines x0 x2) 4) := by
  unfold pick2_4 masked2 greatest2 unitQueries; rw [ld0, ld1]; rfl

/-- The row number that a slot holds, from the sum of the rounds' shares. -/
def rowWord (v : FVec Ideal S128x36 .f32) (h : BitVec 32) (b : Fin 128) (j : Fin 336) : BitVec 32 :=
  Scalar.select (slotUsed (F := Ideal) x0 x1 x2 (ix2 b j))
    (Ideal.fptosi 32 (lanes (roundOf (F := Ideal) x0 x1 x2) (pickCol (work v 0)) (pickCol (work v 1)) (pickCol (work v 2))
      (pickCol (work v 3)) (pickCol (work v 4)) (ix2 b j)) * 120#32 + slotPlace (F := Ideal) x0 x1 x2 (ix2 b j) + h)
    (padPlace (F := Ideal) x0 x1 x2 (ix2 b j))

theorem rowWord_eq (v : FVec Ideal S128x36 .f32) (half : ℕ) (b : Fin 128) (j : Fin 336) :
    rowWord x0 x1 x2 v (BitVec.ofNat 32 half) b j = BitVec.ofNat 32 (slot (chosen (row v b)) half b j) := by
  unfold rowWord slot
  rw [show slotUsed (F := Ideal) x0 x1 x2 (ix2 b j) = _ from pay10_apply b j, show slotPlace (F := Ideal) x0 x1 x2 (ix2 b j) = _ from pay13_apply b j,
    show padPlace (F := Ideal) x0 x1 x2 (ix2 b j) = _ from pay14_apply b j]
  by_cases h : j.val % 56 < 50
  · rw [if_pos h, lanes_apply (roundOf (F := Ideal) x0 x1 x2) v b j (j.val % 56 / 10) (by omega) (pay9_apply b j),
      fptosi_nat _ (by have := (chosen (row v b) (j.val % 56 / 10)).isLt; omega), decide_eq_true h]
    simp only [BitVec.ofNat_add, BitVec.ofNat_mul]
    rfl
  · rw [if_neg h, decide_eq_false h]
    rfl

theorem out0_3_apply (b : Fin 128) (j : Fin 336) :
    out0_3 (F := Ideal) x0 x1 x2 (ix2 b j) = BitVec.ofNat 32 (slot (picks x0 x1 b) 0 b j) := by
  rw [← rowWord_eq x0 x1 x2]
  unfold out0_3
  rw [View.canon_cons_unit_lit _ _ _ (by decide)]
  unfold rowWord
  rw [← pick1_0_eq x0 x1 x2, ← pick1_1_eq x0 x1 x2, ← pick1_2_eq x0 x1 x2, ← pick1_3_eq x0 x1 x2, ← pick1_4_eq x0 x1 x2]
  rw [show BitVec.ofNat 32 0 = 0#32 from rfl, BitVec.add_zero]
  rfl

theorem out0_4_apply (b : Fin 128) (j : Fin 336) :
    out0_4 (F := Ideal) x0 x1 x2 (ix2 b j) = BitVec.ofNat 32 (slot (picks x0 x1 b) 60 b j) := by
  rw [← rowWord_eq x0 x1 x2]
  unfold out0_4
  rw [View.canon_cons_unit_lit _ _ _ (by decide)]
  unfold rowWord
  rw [← pick1_0_eq x0 x1 x2, ← pick1_1_eq x0 x1 x2, ← pick1_2_eq x0 x1 x2, ← pick1_3_eq x0 x1 x2, ← pick1_4_eq x0 x1 x2]
  rfl

theorem out0_5_apply (b : Fin 128) (j : Fin 336) :
    out0_5 (F := Ideal) x0 x1 x2 (ix2 b j) = BitVec.ofNat 32 (slot (picks x0 x2 b) 0 b j) := by
  rw [← rowWord_eq x0 x1 x2]
  unfold out0_5
  rw [View.canon_cons_unit_lit _ _ _ (by decide)]
  unfold rowWord
  rw [← pick2_0_eq x0 x1 x2, ← pick2_1_eq x0 x1 x2, ← pick2_2_eq x0 x1 x2, ← pick2_3_eq x0 x1 x2, ← pick2_4_eq x0 x1 x2]
  rw [show BitVec.ofNat 32 0 = 0#32 from rfl, BitVec.add_zero]
  rfl

theorem out0_6_apply (b : Fin 128) (j : Fin 336) :
    out0_6 (F := Ideal) x0 x1 x2 (ix2 b j) = BitVec.ofNat 32 (slot (picks x0 x2 b) 60 b j) := by
  rw [← rowWord_eq x0 x1 x2]
  unfold out0_6
  rw [View.canon_cons_unit_lit _ _ _ (by decide)]
  unfold rowWord
  rw [← pick2_0_eq x0 x1 x2, ← pick2_1_eq x0 x1 x2, ← pick2_2_eq x0 x1 x2, ← pick2_3_eq x0 x1 x2, ← pick2_4_eq x0 x1 x2]
  rfl

end Outputs

end Cert.Proof.Sc
-- ==== Proof.Loss.lean ====
/- The loss of both programs: one number, from the cosines of the picks. -/
module

public import Idealize.ShloMosaic.Lib.Pointwise.Index
public import proofs.«01_k».proof.Proof.Lists

@[expose] public section

set_option maxRecDepth 16384

noncomputable section

namespace Cert.Proof.Sc

open Cert.KernelIdeal Cert.KernelIdeal.Gen
open Idealize.ShloMosaic

/-! ## The two sums over reals -/

/-- The constant that both programs divide a sum over the picks by: 128 · 128 · 5. -/
theorem ofBits_count : Ideal.ofBits .f32 0x47A00000#32 = ((81920 : ℝ) : EReal) := by
  simp [Ideal.ofBits, Ideal.ieee, -EReal.coe_mul]; norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of a table's columns that one round picks. -/
def picked (C : Fin 128 → Fin 36 → EReal) (k : Fin 128 → Fin 36) : EReal := ∑ b : Fin 128, ∑ a : Fin 128, C a (k b)

/-- One less the mean of the picks is the mean of one less the picks. -/
theorem mean_eq (C : Fin 128 → Fin 36 → EReal) (hC : ∀ a p, Real' (C a p)) (k : Fin 128 → ℕ → Fin 36) :
    (1 : EReal) - Ideal.div (0 + picked C (k · 0) + picked C (k · 1) + picked C (k · 2) + picked C (k · 3) + picked C (k · 4)) ((81920 : ℝ) : EReal)
      = Ideal.div (0 + ∑ a : Fin 128, ∑ b : Fin 128, ∑ t : Fin 5, (1 - C a (k b t.val))) ((81920 : ℝ) : EReal) := by
  choose c hc using hC
  have hp : ∀ f : Fin 128 → Fin 36, picked C f = ((∑ b : Fin 128, ∑ a : Fin 128, c a (f b) : ℝ) : EReal) := fun f => by
    unfold picked
    rw [coe_sum]
    refine Finset.sum_congr rfl fun b _ => ?_
    rw [coe_sum]
    exact Finset.sum_congr rfl fun a _ => hc _ _
  have hr : ∑ a : Fin 128, ∑ b : Fin 128, ∑ t : Fin 5, ((1 : EReal) - C a (k b t.val))
      = ((∑ a : Fin 128, ∑ b : Fin 128, ∑ t : Fin 5, (1 - c a (k b t.val)) : ℝ) : EReal) := by
    rw [coe_sum]
    refine Finset.sum_congr rfl fun a _ => ?_
    rw [coe_sum]
    refine Finset.sum_congr rfl fun b _ => ?_
    rw [coe_sum]
    refine Finset.sum_congr rfl fun t _ => ?_
    rw [hc, EReal.coe_sub, EReal.coe_one]
  have hs : ∑ a : Fin 128, ∑ b : Fin 128, ∑ t : Fin 5, (1 - c a (k b t.val))
      = 81920 - ((∑ b : Fin 128, ∑ a : Fin 128, c a (k b 0)) + (∑ b : Fin 128, ∑ a : Fin 128, c a (k b 1)) + (∑ b : Fin 128, ∑ a : Fin 128, c a (k b 2))
        + (∑ b : Fin 128, ∑ a : Fin 128, c a (k b 3)) + (∑ b : Fin 128, ∑ a : Fin 128, c a (k b 4))) := by
    rw [Finset.sum_comm]
    simp only [Fin.sum_univ_five, Finset.sum_add_distrib, Finset.sum_sub_distrib, Finset.sum_const, Finset.card_univ, Fintype.card_fin, nsmul_eq_mul]
    show _ = 81920 - _
    simp only [Fin.val_zero, Fin.val_one, Fin.val_two, show ((3 : Fin 5).val) = 3 from rfl, show ((4 : Fin 5).val) = 4 from rfl]
    norm_num
  rw [hp, hp, hp, hp, hp, hr, hs, Ideal.div_coe (by norm_num), Ideal.div_coe (by norm_num), zero_add, zero_add,
    ← EReal.coe_add, ← EReal.coe_add, ← EReal.coe_add, ← EReal.coe_add, ← EReal.coe_mul, ← EReal.coe_mul, ← EReal.coe_one, ← EReal.coe_sub]
  congr 1
  ring

/-! ## The selection's sums -/

/-- The sum that one round adds: where the place is the pick, its column's sum. -/
def share (g : FVec Ideal S128x1 .f32) (cs : FVec Ideal S1x36 .f32) : Ideal .f32 :=
  extractAt ![0, 0, 0] (shapeCast S1x1x1 (multiReduction .add [1, 2] S1 (shapeCast S1x128x36
    (select (cmpf .oeq (k0_pay15 (F := Ideal)) (broadcastTo S128x36 g broadcasts_S128x1_S128x36))
      (broadcastTo S128x36 (shapeCast S1x36 cs shapeCasts_S1x36_S1x36) broadcasts_S1x36_S128x36)
      (broadcast S128x36 (Scalar.ofBits .f32 0x00000000#32 : Ideal .f32)))
    shapeCasts_S128x36_S1x128x36) 0x00000000#32 reduces_S1x128x36_S1 (.inl rfl) rfl) shapeCasts_S1_S1x1x1) inpos_S1x1x1_p0_0_0

/-- The sums of a block's columns. -/
theorem columns_sum (C : FVec Ideal S128x36 .f32) (b : Fin 128) (p : Fin 36) :
    broadcastTo S128x36 (shapeCast S1x36 (k0_pay27 C) shapeCasts_S1x36_S1x36) broadcasts_S1x36_S128x36 (ValueIdx.ix2 b p)
      = ∑ a : Fin 128, C (ValueIdx.ix2 a p) := by
  refine (broadcastTo_apply _ _ _ (ValueIdx.ix2 (0 : Fin 1) p) fun d => ?_).trans ?_
  · match d with
    | ⟨0, _⟩ => rfl
    | ⟨1, _⟩ => rfl
  rw [shapeCast_self]
  unfold k0_pay27
  refine (shapeCast_apply _ _ _ (ValueIdx.ix1 p) ?_).trans ?_
  · rw [Shape.rowMajor_val_one, Shape.rowMajor_val_two]
    show p.val = 0 * 36 + p.val
    omega
  refine (Ideal.multiReduction_add_single C _ reduces_S128x36_S36 _ _ _).trans ?_
  refine Finset.sum_congr rfl fun a _ => congrArg C ?_
  funext d
  match d with
  | ⟨0, _⟩ => rfl
  | ⟨1, _⟩ => rfl

theorem share_apply (g : FVec Ideal S128x1 .f32) (C : FVec Ideal S128x36 .f32) (k : Fin 128 → Fin 36)
    (hg : ∀ b, g (ValueIdx.ix2 b 0) = (((k b).val : ℝ) : EReal)) :
    share g (k0_pay27 C) = picked (fun a p => C (ValueIdx.ix2 a p)) k := by
  unfold share extractAt
  refine (shapeCast_apply _ _ _ (ValueIdx.ix1 (0 : Fin 1)) (by rw [Shape.rowMajor_val_one, Shape.rowMajor_val_three]; rfl)).trans ?_
  refine (Ideal.multiReduction_add_total _ _ reduces_S1x128x36_S1 (by decide) _ _ _).trans ?_
  refine (sum_idx3 _).trans ?_
  rw [Fin.sum_univ_one]
  refine Finset.sum_congr rfl fun b _ => ?_
  have e : ∀ p : Fin 36, shapeCast S1x128x36
      (select (cmpf .oeq (k0_pay15 (F := Ideal)) (broadcastTo S128x36 g broadcasts_S128x1_S128x36))
        (broadcastTo S128x36 (shapeCast S1x36 (k0_pay27 C) shapeCasts_S1x36_S1x36) broadcasts_S1x36_S128x36)
        (broadcast S128x36 (Scalar.ofBits .f32 0x00000000#32 : Ideal .f32))) shapeCasts_S128x36_S1x128x36 (ValueIdx.ix3 0 b p)
      = if p = k b then ∑ a : Fin 128, C (ValueIdx.ix2 a p) else 0 := fun p => by
    refine (shapeCast_apply _ _ _ (ValueIdx.ix2 b p) ?_).trans ?_
    · rw [Shape.rowMajor_val_two, Shape.rowMajor_val_three]
      show b.val * 36 + p.val = (0 * 128 + b.val) * 36 + p.val
      omega
    show Scalar.select (FloatOps.cmpf (F := Ideal) (φ := .f32) .oeq (k0_pay15 (F := Ideal) (ValueIdx.ix2 b p)) (broadcastTo S128x36 g _ (ValueIdx.ix2 b p)))
      (broadcastTo S128x36 _ _ (ValueIdx.ix2 b p)) (Ideal.ofBits .f32 0x00000000#32) = _
    rw [select_oeq, spread_apply, hg, places_apply, columns_sum, Ideal.ofBits_zero_f32]
    refine if_congr ?_ rfl rfl
    rw [EReal.coe_eq_coe_iff, Nat.cast_inj, Fin.ext_iff]
  refine (Finset.sum_congr rfl fun p _ => e p).trans ?_
  rw [Finset.sum_ite_eq' Finset.univ (k b), if_pos (Finset.mem_univ _)]

section Outputs

variable (x0 : Vec Ideal S128x768 .f32) (x1 x2 : Vec Ideal S36x768 .f32)

/-- The picks' sum over the five rounds, as the selection adds it. -/
def shares (k : FVec Ideal S36x768 .f32) : Ideal .f32 :=
  FloatOps.addf (FloatOps.addf (FloatOps.addf (FloatOps.addf (FloatOps.addf (Ideal.ofBits .f32 0x00000000#32 : Ideal .f32)
    (share (pickCol (work (cosines x0 k) 0)) (k0_pay27 (cosines x0 k)))) (share (pickCol (work (cosines x0 k) 1)) (k0_pay27 (cosines x0 k))))
    (share (pickCol (work (cosines x0 k) 2)) (k0_pay27 (cosines x0 k)))) (share (pickCol (work (cosines x0 k) 3)) (k0_pay27 (cosines x0 k))))
    (share (pickCol (work (cosines x0 k) 4)) (k0_pay27 (cosines x0 k)))

theorem shares_eq (k : FVec Ideal S36x768 .f32) :
    shares x0 k = (0 : EReal) + picked (cosine x0 k) (fun b => chosen (cosine x0 k b) 0) + picked (cosine x0 k) (fun b => chosen (cosine x0 k b) 1)
      + picked (cosine x0 k) (fun b => chosen (cosine x0 k b) 2) + picked (cosine x0 k) (fun b => chosen (cosine x0 k b) 3)
      + picked (cosine x0 k) (fun b => chosen (cosine x0 k b) 4) := by
  have hC : (fun a p => cosines x0 k (ValueIdx.ix2 a p)) = cosine x0 k := funext fun a => funext fun p => cosines_apply x0 k a p
  have h : ∀ r, share (pickCol (work (cosines x0 k) r)) (k0_pay27 (cosines x0 k)) = picked (cosine x0 k) (fun b => chosen (cosine x0 k b) r) := fun r => by
    rw [share_apply _ _ (fun b => chosen (row (cosines x0 k) b) r) (round_apply (cosines x0 k) r), ← hC]
  unfold shares
  rw [h, h, h, h, h, Ideal.ofBits_zero_f32]
  rfl

/-- The loss, as the selection writes it at every place of its block. -/
theorem out0_7_apply (i : S8x128.Idx) : out0_7 (F := Ideal) x0 x1 x2 i
    = Ideal.div (0 + (1 - Ideal.div (shares x0 x1) (Ideal.ofBits .f32 0x47A00000#32)) + (1 - Ideal.div (shares x0 x2) (Ideal.ofBits .f32 0x47A00000#32)))
        (Ideal.ofBits .f32 0x40400000#32) := by
  have e : out0_7 (F := Ideal) x0 x1 x2 i = Scalar.divf (Scalar.addf
      (Scalar.addf (Scalar.ofBits .f32 0x00000000#32) (Scalar.subf (Scalar.ofBits .f32 0x3F800000#32) (Scalar.divf (shares x0 x1) (Scalar.ofBits .f32 0x47A00000#32))))
      (Scalar.subf (Scalar.ofBits .f32 0x3F800000#32) (Scalar.divf (shares x0 x2) (Scalar.ofBits .f32 0x47A00000#32)))) (Scalar.ofBits (F := Ideal) .f32 0x40400000#32) := by
    unfold out0_7 shares
    rw [View.canon_cons_unit_lit _ _ _ (by decide)]
    rw [← pick1_0_eq x0 x1 x2, ← pick1_1_eq x0 x1 x2, ← pick1_2_eq x0 x1 x2, ← pick1_3_eq x0 x1 x2, ← pick1_4_eq x0 x1 x2,
      ← pick2_0_eq x0 x1 x2, ← pick2_1_eq x0 x1 x2, ← pick2_2_eq x0 x1 x2, ← pick2_3_eq x0 x1 x2, ← pick2_4_eq x0 x1 x2]
    unfold cosines1 keySums2 unitQueries
    rw [ld0, ld1, ld1]
    rfl
  rw [e]
  show Ideal.div (Ideal.ofBits .f32 0x00000000#32 + (Ideal.ofBits .f32 0x3F800000#32 - _) + (Ideal.ofBits .f32 0x3F800000#32 - _)) _ = _
  rw [Ideal.ofBits_zero_f32, Ideal.ofBits_one_f32]
  rfl

end Outputs

end Cert.Proof.Sc

end
-- ==== Proof.TileProg.lean ====
/- The SparseCore body as a list of thirty-two chunks' three stages each.

   A tile copies eight chunks of 168 rows into each of the four outputs. Chunk `k` of output `n` passes through three
   stages — its row numbers fetched and its gather started; the gather awaited and the write-out started; the write-out
   awaited — in slot `k mod 4` of the tile's scratch. The stages of different chunks interleave, and the printed body is
   the list of them in order. -/
module

public import proofs.«01_k».proof.Proof.Setup

@[expose] public section

noncomputable section

namespace Cert.Proof.Sc

open Cert.KernelIdeal Cert.KernelIdeal.Gen
open Idealize.ShloMosaic
open Idealize.SL.Sem

variable {F : FTy → Type}

/-- The table output `n`'s rows are gathered from, -/
abbrev poolM : Fin 4 → Memref sig .scVector .hbm S4320x128 .f32
  | 0 => Memref.whole main_v1_scv
  | 1 => Memref.whole main_v1_scv
  | 2 => Memref.whole main_v2_scv
  | 3 => Memref.whole main_v2_scv
/-- the list of its row numbers, -/
abbrev listM : Fin 4 → Memref sig .scVector .hbm S43008 .i32
  | 0 => Memref.whole main_v3_scv
  | 1 => Memref.whole main_v4_scv
  | 2 => Memref.whole main_v5_scv
  | 3 => Memref.whole main_v6_scv
/-- and the output. -/
abbrev outM : Fin 4 → Memref sig .scVector .hbm S43008x128 .f32
  | 0 => Memref.whole main_v7_0_scv
  | 1 => Memref.whole main_v7_1_scv
  | 2 => Memref.whole main_v7_2_scv
  | 3 => Memref.whole main_v7_3_scv

/-- Slot `b`'s list of row numbers, -/
abbrev idxM : Fin 4 → Memref sig .scVector .vmem S168 .i32
  | 0 => Memref.whole cc1_scratch0
  | 1 => Memref.whole cc1_scratch1
  | 2 => Memref.whole cc1_scratch2
  | 3 => Memref.whole cc1_scratch3

theorem idxM_wordExact : ∀ b : Fin 4, (idxM b).view.WordExact
  | 0 => (Memref.isWhole_whole _).wordExact
  | 1 => (Memref.isWhole_whole _).wordExact
  | 2 => (Memref.isWhole_whole _).wordExact
  | 3 => (Memref.isWhole_whole _).wordExact

theorem slot_inb (b : Fin 4) : ∀ a, (![b.val, 0, 0] : Fin 3 → ℕ) a + S1x168x128.size a ≤ S4x168x128.size a := by
  revert b; decide

/-- its rows — slot `b` of the tile's four-slot row buffer —, -/
abbrev slotR (b : Fin 4) : Rect S4x168x128 := Rect.unit (s := S4x168x128) ![b.val, 0, 0] S1x168x128.size (slot_inb b)
/-- The rows of slot `b`. -/
abbrev rowM (b : Fin 4) : Memref sig .scVector .vmem S168x128 .f32 :=
  ((Memref.whole cc1_scratch4 : Memref sig .scVector .vmem S4x168x128 .f32).slice (slotR b) (fun _ => rfl)).squeeze S168x128 squeezes_S1x168x128_S168x128

/-- the semaphore its gather completes on, -/
abbrev gSem : Fin 4 → DmaSem sig
  | 0 => cc1_scratch5.sem
  | 1 => cc1_scratch6.sem
  | 2 => cc1_scratch7.sem
  | 3 => cc1_scratch8.sem
/-- and the one its write-out completes on. -/
abbrev wSem : Fin 4 → DmaSem sig
  | 0 => cc1_scratch9.sem
  | 1 => cc1_scratch10.sem
  | 2 => cc1_scratch11.sem
  | 3 => cc1_scratch12.sem

/-- The semaphore the fetch of the row numbers of chunk `k` of output `n` completes on. -/
abbrev fSem : Fin 4 → Fin 8 → DmaSem sig
  | 0, 0 => cc1_scoped0.sem | 0, 1 => cc1_scoped1.sem | 0, 2 => cc1_scoped2.sem | 0, 3 => cc1_scoped3.sem
  | 0, 4 => cc1_scoped4.sem | 0, 5 => cc1_scoped5.sem | 0, 6 => cc1_scoped6.sem | 0, 7 => cc1_scoped7.sem
  | 1, 0 => cc1_scoped8.sem | 1, 1 => cc1_scoped9.sem | 1, 2 => cc1_scoped10.sem | 1, 3 => cc1_scoped11.sem
  | 1, 4 => cc1_scoped12.sem | 1, 5 => cc1_scoped13.sem | 1, 6 => cc1_scoped14.sem | 1, 7 => cc1_scoped15.sem
  | 2, 0 => cc1_scoped16.sem | 2, 1 => cc1_scoped17.sem | 2, 2 => cc1_scoped18.sem | 2, 3 => cc1_scoped19.sem
  | 2, 4 => cc1_scoped20.sem | 2, 5 => cc1_scoped21.sem | 2, 6 => cc1_scoped22.sem | 2, 7 => cc1_scoped23.sem
  | 3, 0 => cc1_scoped24.sem | 3, 1 => cc1_scoped25.sem | 3, 2 => cc1_scoped26.sem | 3, 3 => cc1_scoped27.sem
  | 3, 4 => cc1_scoped28.sem | 3, 5 => cc1_scoped29.sem | 3, 6 => cc1_scoped30.sem | 3, 7 => cc1_scoped31.sem

/-- All of a table, as the gather addresses it; -/
abbrev poolAll (n : Fin 4) : Memref sig .scVector .hbm S4320x128 .f32 :=
  (poolM n).slice (Rect.unit (s := S4320x128) ![0, 0] S4320x128.size inb_S4320x128_S4320x128_0_0) (fun _ => rfl)
/-- the row numbers of chunk `k` of output `n` of the tile at `i`, -/
abbrev listK (i : grid1.Coords) (n : Fin 4) (k : Fin 8) : Memref sig .scVector .hbm S168 .i32 :=
  (listM n).slice (Rect.unit (s := S43008) (k1_off1 i (BitVec.ofNat 32 (168 * k.val))) S168.size (k1_off1_inb i k)) (fun _ => rfl)
/-- and the chunk itself. -/
abbrev outK (i : grid1.Coords) (n : Fin 4) (k : Fin 8) : Memref sig .scVector .hbm S168x128 .f32 :=
  (outM n).slice (Rect.unit (s := S43008x128) (k1_off2 i (BitVec.ofNat 32 (168 * k.val))) S168x128.size (k1_off2_inb i k)) (fun _ => rfl)

/-- The slot of chunk `k`. -/
abbrev slotOf (k : Fin 8) : Fin 4 := ⟨k.val % 4, Nat.mod_lt _ (by decide)⟩

/-- A chunk's three stages. -/
inductive Act where
  | start (n : Fin 4) (k : Fin 8)
  | mid (n : Fin 4) (k : Fin 8)
  | fin (n : Fin 4) (k : Fin 8)

variable [FloatOps F]

/-- Programs of a tile. -/
abbrev TProg (F : FTy → Type) (i : grid1.Coords) : Type 1 :=
  Prog (TpuEff nD τ sig (Elt F) Λ₀ (.scVector ((i 0).castLE hcore1) ((i 1).castLE hsub1))) PUnit

/-- One stage's operations, and then the rest. -/
def act (i : grid1.Coords) (rest : TProg F i) : Act → TProg F i
  | .start n k =>
      .op (.enqueueDma (listK i n k) (.here (idxM (slotOf k))) (.dma (fSem n k)) (View.wordExact_bits rfl) (idxM_wordExact _) ⟨Or.inl rfl, trivial⟩) fun _ =>
      .op (.waitDma2 (fSem n k) (listK i n k) (idxM (slotOf k)) (View.wordExact_bits rfl) (idxM_wordExact _)) fun _ =>
      SparseCore.enqueueIndirectGather rfl (poolAll n) (rowM (slotOf k)) gathers_S4320x128_S168x128 (idxM (slotOf k)) rfl (gSem (slotOf k))
        (View.wordExact_bits rfl) rfl (Or.inl rfl) >>= fun _ => rest
  | .mid n k =>
      SparseCore.waitIndirectGather (gSem (slotOf k)) (poolAll n) (rowM (slotOf k)) (View.wordExact_bits rfl) ((View.wordExact_bits rfl).reshape _ _) >>= fun _ =>
      .op (.enqueueDma (rowM (slotOf k)) (.here (outK i n k)) (.dma (wSem (slotOf k))) ((View.wordExact_bits rfl).reshape _ _) (View.wordExact_bits rfl) ⟨Or.inl rfl, trivial⟩) fun _ =>
      rest
  | .fin n k =>
      .op (.waitDma2 (wSem (slotOf k)) (rowM (slotOf k)) (outK i n k) ((View.wordExact_bits rfl).reshape _ _) (View.wordExact_bits rfl)) fun _ => rest

/-- A list of stages, in order. -/
def run (i : grid1.Coords) : List Act → TProg F i
  | [] => .ret ⟨⟩
  | a :: l => act i (run i l) a

/-- Chunk number `t` of the thirty-two, as output and chunk. -/
abbrev nOf (t : ℕ) : Fin 4 := ⟨t / 8 % 4, Nat.mod_lt _ (by decide)⟩
/-- The chunk of a list that a number names. -/
abbrev kOf (t : ℕ) : Fin 8 := ⟨t % 8, Nat.mod_lt _ (by decide)⟩

/-- The body's order: chunk `t` starts once chunk `t - 4` has left its slot, and then chunk `t - 3` is written out. -/
def order : List Act :=
  [.start 0 0, .start 0 1, .start 0 2, .start 0 3, .mid 0 0]
    ++ ((List.range 28).map fun t => [Act.fin (nOf t) (kOf t), .start (nOf (t + 4)) (kOf (t + 4)), .mid (nOf (t + 1)) (kOf (t + 1))]).flatten
    ++ [.mid 3 5, .mid 3 6, .mid 3 7, .fin 3 4, .fin 3 5, .fin 3 6, .fin 3 7]

set_option maxRecDepth 65536 in
set_option maxHeartbeats 4000000 in
/-- The printed body is that list of stages. -/
theorem body_eq_run (i : grid1.Coords) :
    cc1_k (F := F) i (Memref.whole main_v1_scv) (Memref.isWhole_whole _) (Memref.whole main_v2_scv) (Memref.isWhole_whole _) (Memref.whole main_v3_scv) (Memref.isWhole_whole _)
      (Memref.whole main_v4_scv) (Memref.isWhole_whole _) (Memref.whole main_v5_scv) (Memref.isWhole_whole _) (Memref.whole main_v6_scv) (Memref.isWhole_whole _)
      (Memref.whole main_v7_0_scv) (Memref.isWhole_whole _) (Memref.whole main_v7_1_scv) (Memref.isWhole_whole _) (Memref.whole main_v7_2_scv) (Memref.isWhole_whole _)
      (Memref.whole main_v7_3_scv) (Memref.isWhole_whole _) (Memref.whole cc1_scratch0) (Memref.isWhole_whole _) (Memref.whole cc1_scratch1) (Memref.isWhole_whole _)
      (Memref.whole cc1_scratch2) (Memref.isWhole_whole _) (Memref.whole cc1_scratch3) (Memref.isWhole_whole _) (Memref.whole cc1_scratch4) (Memref.isWhole_whole _)
      cc1_scratch5 cc1_scratch6 cc1_scratch7 cc1_scratch8 cc1_scratch9 cc1_scratch10 cc1_scratch11 cc1_scratch12
      cc1_scoped0 cc1_scoped1 cc1_scoped2 cc1_scoped3 cc1_scoped4 cc1_scoped5 cc1_scoped6 cc1_scoped7 cc1_scoped8 cc1_scoped9 cc1_scoped10 cc1_scoped11
      cc1_scoped12 cc1_scoped13 cc1_scoped14 cc1_scoped15 cc1_scoped16 cc1_scoped17 cc1_scoped18 cc1_scoped19 cc1_scoped20 cc1_scoped21 cc1_scoped22 cc1_scoped23
      cc1_scoped24 cc1_scoped25 cc1_scoped26 cc1_scoped27 cc1_scoped28 cc1_scoped29 cc1_scoped30 cc1_scoped31
      = run (F := F) i order := rfl

end Cert.Proof.Sc

end
-- ==== Proof.Tile.lean ====
/- One tile's run, stage by stage.

   The state of the tile is which chunk each of its four slots holds, and at which stage, and which chunks are written;
   `step` is what a stage does to it, and `act_sound` proves that the stage's operations do that, with the contents: a
   chunk written holds the rows of `G`. -/
module

public import proofs.«01_k».proof.Proof.TileProg

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The state and its steps -/

/-- What a slot holds: nothing, a chunk being gathered, or a chunk being written out. -/
inductive Phase where
  | free
  | gath (n : Fin 4) (k : Fin 8)
  | wr (n : Fin 4) (k : Fin 8)
  deriving DecidableEq

/-- Where a chunk is: not begun to be written, being written, written. -/
inductive Stage where
  | todo
  | busy
  | done
  deriving DecidableEq

structure St where
  slot : Fin 4 → Phase
  chunk : Fin 4 × Fin 8 → Stage

/-- What a stage does, where it applies. -/
def step (σ : St) : Act → Option St
  | .start n k => if σ.slot (slotOf k) = .free then some ⟨Function.update σ.slot (slotOf k) (.gath n k), σ.chunk⟩ else none
  | .mid n k =>
      if σ.slot (slotOf k) = .gath n k ∧ σ.chunk (n, k) = .todo then
        some ⟨Function.update σ.slot (slotOf k) (.wr n k), Function.update σ.chunk (n, k) .busy⟩
      else none
  | .fin n k =>
      if σ.slot (slotOf k) = .wr n k ∧ σ.chunk (n, k) = .busy then
        some ⟨Function.update σ.slot (slotOf k) .free, Function.update σ.chunk (n, k) .done⟩
      else none

/-- The state after a list of stages, if every stage can run. -/
def exec : List Act → St → Option St
  | [], σ => some σ
  | a :: l, σ => (step σ a).bind (exec l)

/-- Every slot free, every chunk to do. -/
def init : St := ⟨fun _ => .free, fun _ => .todo⟩
/-- Every slot free, every chunk done. -/
def final : St := ⟨fun _ => .free, fun _ => .done⟩

/-- Whether a run of stages ended with every slot free and every chunk written. -/
def ended : Option St → Bool
  | none => false
  | some σ => decide ((∀ b, σ.slot b = .free) ∧ ∀ x, σ.chunk x = .done)

theorem eq_final {o : Option St} (h : ended o = true) : o = some final := by
  cases o with
  | none => exact absurd h (by simp [ended])
  | some σ =>
    obtain ⟨h₁, h₂⟩ := of_decide_eq_true h
    cases σ
    exact congrArg some (St.mk.injEq .. ▸ ⟨funext h₁, funext h₂⟩)

set_option maxRecDepth 100000 in
/-- The body's order takes every slot back to free and every chunk to written. -/
theorem exec_order : exec order init = some final := eq_final (by decide +kernel)

/-! ## A big product at an updated place -/

section Update

variable {M : Type} [URA M] {I P : Type} [Fintype I] [DecidableEq I]

theorem bigSep_at (Ψ : P → I → sProp M) (s : I → P) (b : I) :
    bigSep Finset.univ (fun x => Ψ (s x) x) = iprop(Ψ (s b) b ∗ bigSep (Finset.univ.erase b) fun x => Ψ (s x) x) :=
  SparseCore.bigSep_erase' (Finset.mem_univ b)

theorem bigSep_update (Ψ : P → I → sProp M) (s : I → P) (b : I) (p : P) :
    bigSep Finset.univ (fun x => Ψ (Function.update s b p x) x) = iprop(Ψ p b ∗ bigSep (Finset.univ.erase b) fun x => Ψ (s x) x) := by
  rw [bigSep_at Ψ (Function.update s b p) b, Function.update_self]
  congr 1
  exact bigSep_congr fun x hx => by rw [Function.update_of_ne (Finset.ne_of_mem_erase hx)]

end Update

/-! ## The resources of a state -/

variable [FloatOps F]

section Tile

variable (d : Dev nD) (i : grid1.Coords)

/-- The tile's core. -/
abbrev cV (i : grid1.Coords) : Fin τ.nSC := (i 0).castLE hcore1
/-- The tile's number in its core. -/
abbrev jV (i : grid1.Coords) : Fin τ.nSub := (i 1).castLE hsub1
/-- The tile's thread. -/
abbrev thr (d : Dev nD) (i : grid1.Coords) : Thread nD τ := V d (cV i) (jV i)

variable (pl : (n : Fin 4) → Buf (Elt F) ((poolM n).view.loc (thr d i))) (ls : (n : Fin 4) → Buf (Elt F) ((listM n).view.loc (thr d i)))
  (G : (n : Fin 4) → Buf (Elt F) ((outM n).view.loc (thr d i)))
  (pq : Fin 4 → Fin 4 → PosShare TreeShare) (lq : PosShare TreeShare)

/-- Slot `b`'s share of output `n`'s table. -/
abbrev poolPts (b n : Fin 4) : sProp 𝕄 := (poolAll n).view.loc (thr d i) ↦[(poolAll n).view.set]{pq n b} pl n
/-- A share of a list. -/
abbrev listPts (n : Fin 4) : sProp 𝕄 := (listM n).view.loc (thr d i) ↦{lq} ls n
/-- A slot's row numbers, whatever they are. -/
abbrev idxPts (b : Fin 4) : sProp 𝕄 := iprop(∃ f, (idxM b).view.loc (thr d i) ↦[(idxM b).view.set]{fullShare} f)
/-- A slot's rows, whatever they are. -/
abbrev rowPts (b : Fin 4) : sProp 𝕄 := iprop(∃ f, (rowM b).view.loc (thr d i) ↦[(rowM b).view.set]{fullShare} f)
/-- A chunk of a result. -/
abbrev outPts (n : Fin 4) (k : Fin 8) (f : Buf (Elt F) ((outK i n k).view.loc (thr d i))) : sProp 𝕄 :=
  (outK i n k).view.loc (thr d i) ↦[(outK i n k).view.set]{fullShare} f

/-- What the rows of chunk `k` of output `n` are to be. -/
abbrev want (n : Fin 4) (k : Fin 8) : S168x128.Idx → Elt F .f32 := (outK i n k).view.read (Elt F) (G n)

/-- What the tile holds for a slot, by what the slot is at. -/
def slotRes (p : Phase) (b : Fin 4) : sProp 𝕄 :=
  match p with
  | .free => iprop(idxPts d i b ∗ rowPts d i b ∗ semVal (thr d i, .dma (gSem b)) 0 ∗ semVal (thr d i, .dma (wSem b)) 0
      ∗ bigSep Finset.univ fun n => poolPts d i pl pq b n)
  | .gath n k => iprop(Transfers.Flight countersEmb (thr d i) (.dma (gSem b)) (default : HIx 1) (rowM b).view.dmaCredit
        iprop((∃ f, ⌜(rowM b).view.read (Elt F) f = want d i G n k⌝ ∗ (rowM b).view.loc (thr d i) ↦[(rowM b).view.set]{fullShare} f)
          ∗ poolPts d i pl pq b n ∗ idxPts d i b)
      ∗ semVal (thr d i, .dma (wSem b)) 0
      ∗ bigSep (Finset.univ.erase n) fun n => poolPts d i pl pq b n)
  | .wr n k => iprop(Transfers.Flight countersEmb (thr d i) (.dma (wSem b)) (default : HIx 1) (outK i n k).view.dmaCredit
        iprop(outPts d i n k (G n) ∗ rowPts d i b)
      ∗ idxPts d i b ∗ semVal (thr d i, .dma (gSem b)) 0
      ∗ bigSep Finset.univ fun n => poolPts d i pl pq b n)

/-- What the tile holds for a chunk, by what the chunk is at. -/
def chunkRes (p : Stage) (x : Fin 4 × Fin 8) : sProp 𝕄 :=
  match p with
  | .todo => iprop(∃ f, outPts d i x.1 x.2 f)
  | .busy => iprop(emp)
  | .done => outPts d i x.1 x.2 (G x.1)

/-- All the tile holds at a state. -/
def Inv (σ : St) : sProp 𝕄 :=
  iprop(bigSep Finset.univ (fun b => slotRes d i pl G pq (σ.slot b) b)
    ∗ bigSep Finset.univ (fun x => chunkRes d i G (σ.chunk x) x)
    ∗ bigSep Finset.univ (fun n => listPts d i ls lq n)
    ∗ bigSep Finset.univ (fun x : Fin 4 × Fin 8 => semVal (thr d i, .dma (fSem x.1 x.2)) 0))

/-- What the run asks of the contents: every row number names a row, and the rows named are `G`'s. -/
structure Fit : Prop where
  inRange : ∀ n k x, ((listK i n k).view.read (Elt F) (ls n) x).toNat < 4320
  rows : ∀ n k (g : S168.Idx → Elt F .i32) (h : ∀ x, (g x).toNat < S4320x128.size gathers_S4320x128_S168x128.axis),
    g = (listK i n k).view.read (Elt F) (ls n) →
      SparseCore.gatherPayload gathers_S4320x128_S168x128 ((poolAll n).view.read (Elt F) (pl n)) (SparseCore.rows g rfl h) = want d i G n k

theorem rowCredit : ∀ b : Fin 4, ∀ h : S4320x128.Gathers 0 S168x128,
    ∑ j, ((rowM b).slice (S168x128.rowRect h.axis' j) (S168x128.stride_rowRect h.axis' j)).view.dmaCredit = (rowM b).view.dmaCredit := by
  decide +kernel

theorem slotRes_free (b : Fin 4) : slotRes (F := F) d i pl G pq .free b = iprop(idxPts d i b ∗ rowPts d i b ∗ semVal (thr d i, .dma (gSem b)) 0 ∗ semVal (thr d i, .dma (wSem b)) 0
      ∗ bigSep Finset.univ fun n => poolPts d i pl pq b n) := rfl

variable {d i pl ls G pq lq}

/-- The write of a chunk's own rows is `G` on the chunk. -/
theorem outPts_write (n : Fin 4) (k : Fin 8) (f : Buf (Elt F) ((outK i n k).view.loc (thr d i))) (v : S168x128.Idx → Elt F .f32)
    (hv : v = want d i G n k) :
    outPts d i n k ((outK i n k).view.write (Elt F) f v Finset.univ) = outPts (F := F) d i n k (G n) := by
  subst hv
  refine pointsTo_congr fun j hj => ?_
  obtain ⟨x, -, rfl⟩ := Finset.mem_map.mp hj
  rw [View.write_emb, if_pos (Finset.mem_univ _)]
  simp [want, View.read_apply]

variable {O : CellTallies nD τ sig (HIx 1)}

theorem mem_insert_none {W : Waits sig (HIx 1)} {sm : SemLoc sig} :
    ∀ p ∈ insert (sm, (default : HIx 1)) W, p ∈ W ∨ p.2 = none := by
  intro p hp
  rcases Finset.mem_insert.mp hp with hp | hp
  · exact .inr (hp ▸ rfl)
  · exact .inl hp

set_option maxHeartbeats 4000000 in
theorem start_sound (hf : Fit (F := F) d i pl ls G) (hO : ∀ g, O g none = 0) (n : Fin 4) (k : Fin 8) (rest : TProg F i) (Φ : PUnit.{1} → sProp 𝕄)
    (W : Waits sig (HIx 1)) :
    iprop(levAts (K (F := F)).L (K (F := F)).lev ∗ slotRes d i pl G pq .free (slotOf k) ∗ listPts d i ls lq n ∗ semVal (thr d i, .dma (fSem n k)) 0
        ∗ owes (thr d i) O W
        ∗ ((∃ W', ⌜∀ p ∈ W', p ∈ W ∨ p.2 = none⌝ ∗ slotRes d i pl G pq (.gath n k) (slotOf k) ∗ listPts d i ls lq n ∗ semVal (thr d i, .dma (fSem n k)) 0
            ∗ owes (thr d i) O W') -∗ wp frame (wpE (defs₀ (F := F)) 𝒱₀ (thr d i) none) Set.univ rest Φ))
      ⊢ wp frame (wpE (defs₀ (F := F)) 𝒱₀ (thr d i) none) Set.univ (act i rest (.start n k)) Φ := by
  rw [slotRes_free]
  iintro ⟨#Hlv, ⟨⟨%fi, Hi⟩, ⟨%fr, Hr⟩, Hg, Hw, Hp⟩, Hl, Hf, HO, Hk⟩
  ihave Hmw := (show levAts (K (F := F)).L (K (F := F)).lev ⊢ Transfers.MayWaits (thr d i) (default : HIx 1) O from
    (K (F := F)).mayWaits_none (thr := thr d i) hO) $$ Hlv
  ihave Hl' := (pointsTo_split_subset (q := lq) (f := ls n) (S := Finset.univ) (Finset.subset_univ (listK i n k).view.set)).1 $$ Hl
  icases Hl' with ⟨Hl, Hlr⟩
  unfold act
  iapply (Transfers.wp_dmaLocal countersEmb 𝒱₀ (thr d i) none (src := listK i n k) (dst := idxM (slotOf k)) (fs := ls n) (default : HIx 1) (idxM (slotOf k)).view.dmaCredit rfl
      (View.dmaCredit_pos _ (by decide)) (Finset.Subset.refl _)) $$ [Hl Hi Hf]
  · isplitl [Hl]; · iexact Hl
    isplitl [Hi]; · iexact Hi
    iexact Hf
  iintro Hfl
  iapply (Transfers.wp_waitLocalO countersEmb 𝒱₀ (thr d i) none (default : HIx 1) (rfl : (idxM (slotOf k)).view.dmaCredit = _)) $$ [Hfl HO]
  · isplitl [Hfl]; · iexact Hfl
    isplitl [HO]; · iexact HO
    iapply (Transfers.MayWaits.elim (SemLoc.dma (fSem n k))) $$ Hmw
  iintro ⟨⟨Hi, Hl⟩, Hf, HO⟩
  ihave Hl := (pointsTo_split_subset (q := lq) (f := ls n) (S := Finset.univ) (Finset.subset_univ (listK i n k).view.set)).2 $$ [Hl Hlr]; · isplitl [Hl] <;> iassumption
  ihave Hp := (Entails.of_eq (SparseCore.bigSep_erase' (Finset.mem_univ n))) $$ Hp
  icases Hp with ⟨Hpn, Hp⟩
  have hread : (idxM (slotOf k)).view.read (Elt F) ((idxM (slotOf k)).view.write (Elt F) fi ((ReadAs.same : ReadAs (Elt F) _ _ _ _).apply ((listK i n k).view.read (Elt F) (ls n))) Finset.univ)
      = (listK i n k).view.read (Elt F) (ls n) := View.read_write_univ _ _
  have hin : ∀ x, ((idxM (slotOf k)).view.read (Elt F) ((idxM (slotOf k)).view.write (Elt F) fi ((ReadAs.same : ReadAs (Elt F) _ _ _ _).apply ((listK i n k).view.read (Elt F) (ls n))) Finset.univ) x).toNat
      < S4320x128.size gathers_S4320x128_S168x128.axis := by
    intro x; rw [hread]; exact hf.inRange n k x
  iapply (SparseCore.wp_indirectGatherLocal countersEmb 𝒱₀ (thr d i) none (src := poolAll n) (dst := rowM (slotOf k)) (offs := idxM (slotOf k)) (hg := gathers_S4320x128_S168x128) (fs := pl n) (q := pq n (slotOf k)) (default : HIx 1)
      (rowM (slotOf k)).view.dmaCredit (rowCredit _ _) (by decide) hin) $$ [Hpn Hr Hi Hg]
  · isplitl [Hpn]; · iexact Hpn
    isplitl [Hr]; · iexact Hr
    isplitl [Hi]; · iexact Hi
    iexact Hg
  iintro Hfl
  iapply Hk
  iexists (insert (SemLoc.dma (fSem n k), (default : HIx 1)) W); isplitr
  · ipureintro; exact mem_insert_none
  isplitl [Hfl Hw Hp]
  · unfold slotRes
    isplitl [Hfl]
    · iapply (Transfers.Flight_mono countersEmb (thr d i) ?_) $$ Hfl
      iintro ⟨Hr, Hpn, Hi⟩
      isplitl [Hr]
      · iexists _; isplitr
        swap; · iexact Hr
        ipureintro
        rw [View.read_write_univ]
        exact hf.rows n k _ hin hread
      isplitl [Hpn]; · iexact Hpn
      iexists _; iexact Hi
    isplitl [Hw]; · iexact Hw
    iexact Hp
  isplitl [Hl]; · iexact Hl
  isplitl [Hf]; · iexact Hf
  iexact HO

set_option maxHeartbeats 4000000 in
theorem mid_sound (hO : ∀ g, O g none = 0) (n : Fin 4) (k : Fin 8) (rest : TProg F i) (Φ : PUnit.{1} → sProp 𝕄)
    (W : Waits sig (HIx 1)) :
    iprop(levAts (K (F := F)).L (K (F := F)).lev ∗ slotRes d i pl G pq (.gath n k) (slotOf k) ∗ chunkRes d i G .todo (n, k)
        ∗ owes (thr d i) O W
        ∗ ((∃ W', ⌜∀ p ∈ W', p ∈ W ∨ p.2 = none⌝ ∗ slotRes d i pl G pq (.wr n k) (slotOf k) ∗ chunkRes d i G .busy (n, k)
            ∗ owes (thr d i) O W') -∗ wp frame (wpE (defs₀ (F := F)) 𝒱₀ (thr d i) none) Set.univ rest Φ))
      ⊢ wp frame (wpE (defs₀ (F := F)) 𝒱₀ (thr d i) none) Set.univ (act i rest (.mid n k)) Φ := by
  unfold slotRes chunkRes
  iintro ⟨#Hlv, ⟨Hfl, Hw, Hp⟩, ⟨%fo, Ho⟩, HO, Hk⟩
  ihave Hmw := (show levAts (K (F := F)).L (K (F := F)).lev ⊢ Transfers.MayWaits (thr d i) (default : HIx 1) O from
    (K (F := F)).mayWaits_none (thr := thr d i) hO) $$ Hlv
  unfold act SparseCore.waitIndirectGather
  iapply (Transfers.wp_waitLocalO countersEmb 𝒱₀ (thr d i) none (default : HIx 1) (rfl : (rowM (slotOf k)).view.dmaCredit = _)) $$ [Hfl HO]
  · isplitl [Hfl]; · iexact Hfl
    isplitl [HO]; · iexact HO
    iapply (Transfers.MayWaits.elim (SemLoc.dma (gSem (slotOf k)))) $$ Hmw
  iintro ⟨⟨⟨%fr, %hfr, Hr⟩, Hpn, Hi⟩, Hg, HO⟩
  iapply (Transfers.wp_dmaLocal countersEmb 𝒱₀ (thr d i) none (src := rowM (slotOf k)) (dst := outK i n k) (fs := fr) (default : HIx 1) (outK i n k).view.dmaCredit rfl
      (View.dmaCredit_pos _ (by decide)) (Finset.Subset.refl _)) $$ [Hr Ho Hw]
  · isplitl [Hr]; · iexact Hr
    isplitl [Ho]; · iexact Ho
    iexact Hw
  iintro Hfl
  iapply Hk
  iexists (insert (SemLoc.dma (gSem (slotOf k)), (default : HIx 1)) W); isplitr
  · ipureintro; exact mem_insert_none
  isplitl [Hfl Hi Hg Hp Hpn]
  · isplitl [Hfl]
    · iapply (Transfers.Flight_mono countersEmb (thr d i) ?_) $$ Hfl
      iintro ⟨Ho, Hr⟩
      isplitl [Ho]
      · iapply (Entails.of_eq (outPts_write (F := F) (d := d) (i := i) (G := G) n k fo _ hfr)) $$ Ho
      iexists _; iexact Hr
    isplitl [Hi]; · iexact Hi
    isplitl [Hg]; · iexact Hg
    iapply (Entails.of_eq (SparseCore.bigSep_erase' (Finset.mem_univ n)).symm)
    isplitl [Hpn]; · iexact Hpn
    iexact Hp
  isplitr; · iempintro
  iexact HO

set_option maxHeartbeats 4000000 in
theorem fin_sound (hO : ∀ g, O g none = 0) (n : Fin 4) (k : Fin 8) (rest : TProg F i) (Φ : PUnit.{1} → sProp 𝕄)
    (W : Waits sig (HIx 1)) :
    iprop(levAts (K (F := F)).L (K (F := F)).lev ∗ slotRes d i pl G pq (.wr n k) (slotOf k) ∗ chunkRes d i G .busy (n, k)
        ∗ owes (thr d i) O W
        ∗ ((∃ W', ⌜∀ p ∈ W', p ∈ W ∨ p.2 = none⌝ ∗ slotRes d i pl G pq .free (slotOf k) ∗ chunkRes d i G .done (n, k)
            ∗ owes (thr d i) O W') -∗ wp frame (wpE (defs₀ (F := F)) 𝒱₀ (thr d i) none) Set.univ rest Φ))
      ⊢ wp frame (wpE (defs₀ (F := F)) 𝒱₀ (thr d i) none) Set.univ (act i rest (.fin n k)) Φ := by
  unfold slotRes chunkRes
  iintro ⟨#Hlv, ⟨Hfl, Hi, Hg, Hp⟩, -, HO, Hk⟩
  ihave Hmw := (show levAts (K (F := F)).L (K (F := F)).lev ⊢ Transfers.MayWaits (thr d i) (default : HIx 1) O from
    (K (F := F)).mayWaits_none (thr := thr d i) hO) $$ Hlv
  unfold act
  iapply (Transfers.wp_waitLocalO countersEmb 𝒱₀ (thr d i) none (default : HIx 1) (rfl : (outK i n k).view.dmaCredit = _)) $$ [Hfl HO]
  · isplitl [Hfl]; · iexact Hfl
    isplitl [HO]; · iexact HO
    iapply (Transfers.MayWaits.elim (SemLoc.dma (wSem (slotOf k)))) $$ Hmw
  iintro ⟨⟨Ho, Hr⟩, Hw, HO⟩
  iapply Hk
  iexists (insert (SemLoc.dma (wSem (slotOf k)), (default : HIx 1)) W); isplitr
  · ipureintro; exact mem_insert_none
  isplitl [Hi Hr Hg Hw Hp]
  · isplitl [Hi]; · iexact Hi
    isplitl [Hr]; · iexact Hr
    isplitl [Hg]; · iexact Hg
    isplitl [Hw]; · iexact Hw
    iexact Hp
  isplitl [Ho]; · iexact Ho
  iexact HO

/-- A stage that applies is performed by its operations. -/
theorem act_sound (hf : Fit (F := F) d i pl ls G) (hO : ∀ g, O g none = 0) (a : Act) (σ σ' : St) (h : step σ a = some σ') (rest : TProg F i) (Φ : PUnit.{1} → sProp 𝕄)
    (W : Waits sig (HIx 1)) :
    iprop(levAts (K (F := F)).L (K (F := F)).lev ∗ Inv d i pl ls G pq lq σ ∗ owes (thr d i) O W
        ∗ ((∃ W', ⌜∀ p ∈ W', p ∈ W ∨ p.2 = none⌝ ∗ Inv d i pl ls G pq lq σ' ∗ owes (thr d i) O W')
            -∗ wp frame (wpE (defs₀ (F := F)) 𝒱₀ (thr d i) none) Set.univ rest Φ))
      ⊢ wp frame (wpE (defs₀ (F := F)) 𝒱₀ (thr d i) none) Set.univ (act i rest a) Φ := by
  cases a with
  | start n k =>
    simp only [step] at h
    split at h
    case isFalse => exact absurd h (by simp)
    rename_i hs
    obtain rfl := Option.some.inj h
    unfold Inv
    rw [bigSep_at (slotRes (F := F) d i pl G pq) σ.slot (slotOf k), hs, bigSep_update (slotRes (F := F) d i pl G pq) σ.slot (slotOf k)]
    iintro ⟨Hlv, ⟨⟨Hs, Hss⟩, Hc, Hl, Hf⟩, HO, Hk⟩
    ihave Hl := (Entails.of_eq (SparseCore.bigSep_erase' (Finset.mem_univ n))) $$ Hl
    icases Hl with ⟨Hl, Hls⟩
    ihave Hf := (Entails.of_eq (SparseCore.bigSep_erase' (Finset.mem_univ (n, k)))) $$ Hf
    icases Hf with ⟨Hf, Hfs⟩
    iapply (start_sound (lq := lq) hf hO n k rest _ W)
    isplitl [Hlv]; · iexact Hlv
    isplitl [Hs]; · iexact Hs
    isplitl [Hl]; · iexact Hl
    isplitl [Hf]; · iexact Hf
    isplitl [HO]; · iexact HO
    iintro ⟨%W', %hW', Hs, Hl, Hf, HO⟩
    iapply Hk
    iexists W'; isplitr; · ipureintro; exact hW'
    isplitl [Hs Hss Hc Hl Hls Hf Hfs]
    · isplitl [Hs Hss]
      · isplitl [Hs]; · iexact Hs
        iexact Hss
      isplitl [Hc]; · iexact Hc
      isplitl [Hl Hls]
      · iapply (Entails.of_eq (SparseCore.bigSep_erase' (Finset.mem_univ n)).symm)
        isplitl [Hl]; · iexact Hl
        iexact Hls
      · iapply (Entails.of_eq (SparseCore.bigSep_erase' (Finset.mem_univ (n, k))).symm)
        isplitl [Hf]; · iexact Hf
        iexact Hfs
    iexact HO
  | mid n k =>
    simp only [step] at h
    split at h
    case isFalse => exact absurd h (by simp)
    rename_i hs
    obtain rfl := Option.some.inj h
    unfold Inv
    rw [bigSep_at (slotRes (F := F) d i pl G pq) σ.slot (slotOf k), hs.1, bigSep_update (slotRes (F := F) d i pl G pq) σ.slot (slotOf k),
      bigSep_at (chunkRes (F := F) d i G) σ.chunk (n, k), hs.2, bigSep_update (chunkRes (F := F) d i G) σ.chunk (n, k)]
    iintro ⟨Hlv, ⟨⟨Hs, Hss⟩, ⟨Hc, Hcs⟩, Hl, Hf⟩, HO, Hk⟩
    iapply (mid_sound hO n k rest _ W)
    isplitl [Hlv]; · iexact Hlv
    isplitl [Hs]; · iexact Hs
    isplitl [Hc]; · iexact Hc
    isplitl [HO]; · iexact HO
    iintro ⟨%W', %hW', Hs, Hc, HO⟩
    iapply Hk
    iexists W'; isplitr; · ipureintro; exact hW'
    isplitl [Hs Hss Hc Hcs Hl Hf]
    · isplitl [Hs Hss]
      · isplitl [Hs]; · iexact Hs
        iexact Hss
      isplitl [Hc Hcs]
      · isplitl [Hc]; · iexact Hc
        iexact Hcs
      isplitl [Hl]; · iexact Hl
      iexact Hf
    iexact HO
  | fin n k =>
    simp only [step] at h
    split at h
    case isFalse => exact absurd h (by simp)
    rename_i hs
    obtain rfl := Option.some.inj h
    unfold Inv
    rw [bigSep_at (slotRes (F := F) d i pl G pq) σ.slot (slotOf k), hs.1, bigSep_update (slotRes (F := F) d i pl G pq) σ.slot (slotOf k),
      bigSep_at (chunkRes (F := F) d i G) σ.chunk (n, k), hs.2, bigSep_update (chunkRes (F := F) d i G) σ.chunk (n, k)]
    iintro ⟨Hlv, ⟨⟨Hs, Hss⟩, ⟨Hc, Hcs⟩, Hl, Hf⟩, HO, Hk⟩
    iapply (fin_sound hO n k rest _ W)
    isplitl [Hlv]; · iexact Hlv
    isplitl [Hs]; · iexact Hs
    isplitl [Hc]; · iexact Hc
    isplitl [HO]; · iexact HO
    iintro ⟨%W', %hW', Hs, Hc, HO⟩
    iapply Hk
    iexists W'; isplitr; · ipureintro; exact hW'
    isplitl [Hs Hss Hc Hcs Hl Hf]
    · isplitl [Hs Hss]
      · isplitl [Hs]; · iexact Hs
        iexact Hss
      isplitl [Hc Hcs]
      · isplitl [Hc]; · iexact Hc
        iexact Hcs
      isplitl [Hl]; · iexact Hl
      iexact Hf
    iexact HO

/-- A list of stages that apply in turn is performed by its program. -/
theorem run_sound (hf : Fit (F := F) d i pl ls G) (hO : ∀ g, O g none = 0) : ∀ (l : List Act) (σ σ' : St), exec l σ = some σ' → ∀ W : Waits sig (HIx 1),
    iprop(levAts (K (F := F)).L (K (F := F)).lev ∗ Inv d i pl ls G pq lq σ ∗ owes (thr d i) O W)
      ⊢ wp frame (wpE (defs₀ (F := F)) 𝒱₀ (thr d i) none) Set.univ (run (F := F) i l)
          fun _ => iprop(∃ W', ⌜∀ p ∈ W', p ∈ W ∨ p.2 = none⌝ ∗ Inv d i pl ls G pq lq σ' ∗ owes (thr d i) O W')
  | [], σ, σ', h, W => by
    obtain rfl := Option.some.inj h
    unfold run
    rw [wp_ret]
    iintro ⟨-, HI, HO⟩
    imodintro
    iexists W; isplitr; · ipureintro; exact fun p hp => .inl hp
    isplitl [HI]; · iexact HI
    iexact HO
  | a :: l, σ, σ', h, W => by
    obtain ⟨σ₁, h₁, h₂⟩ := Option.bind_eq_some_iff.mp h
    unfold run
    iintro ⟨#Hlv, HI, HO⟩
    iapply (act_sound hf hO a σ σ₁ h₁ (run i l) _ W)
    isplitr; · iexact Hlv
    isplitl [HI]; · iexact HI
    isplitl [HO]; · iexact HO
    iintro ⟨%W₁, %hW₁, HI, HO⟩
    iapply (wp_mono ?_)
    swap
    · iapply (run_sound hf hO l σ₁ σ' h₂ W₁)
      isplitr; · iexact Hlv
      isplitl [HI]; · iexact HI
      iexact HO
    intro _
    iintro ⟨%W', %hW', HI, HO⟩
    iexists W'; isplitr
    · ipureintro; exact fun p hp => (hW' p hp).elim (fun h => hW₁ p h) .inr
    isplitl [HI]; · iexact HI
    iexact HO

end Tile

end Cert.Proof.Sc

end
-- ==== Proof.Pay.lean ====
/- What the gather's handshakes carry, and one tile's task from its start to its end.

   The call takes shares of the two tables and of the four lists of row numbers, and the four outputs cut into chunks; it
   hands each tile its own, and every tile brings back the same with its chunks at the gathered rows. -/
module

public import proofs.«01_k».proof.Proof.Tile

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownRefs ownCells ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The call's operands and results -/

/-- What the call is given on one device: two tables, and four lists of row numbers. -/
structure Ops (F : FTy → Type) where
  tabP : S4320x128.Idx → Elt F .f32
  tabK : S4320x128.Idx → Elt F .f32
  list : Fin 4 → S43008.Idx → Elt F .i32

/-- Row `r`, column `c` of a table. -/
def tabIx (r : Fin 4320) (c : Fin 128) : S4320x128.Idx := fun | 0 => r | 1 => c
/-- Place `j` of a list. -/
def listIx (j : Fin 43008) : S43008.Idx := fun | 0 => j

/-- The rows of `t` that the list names, one after another (a number is taken below the table's height). -/
def gath {α : Type} (t : S4320x128.Idx → α) (l : S43008.Idx → BitVec 32) : S43008x128.Idx → α :=
  fun j => t (tabIx ⟨(l (listIx (j 0))).toNat % 4320, Nat.mod_lt _ (by decide)⟩ (j 1))

namespace Ops

variable (A : Ops F)

/-- The table of output `n`. -/
def tab : Fin 4 → S4320x128.Idx → Elt F .f32
  | 0 => A.tabP | 1 => A.tabP | 2 => A.tabK | 3 => A.tabK
/-- Output `n`'s rows. -/
def res (n : Fin 4) : S43008x128.Idx → Elt F .f32 := gath (A.tab n) (A.list n)
/-- Every row number names a row. -/
def InRange : Prop := ∀ n j, (A.list n j).toNat < 4320

variable (d : Dev nD) (i : grid1.Coords)

/-- The tables. -/
def pl : (n : Fin 4) → Buf (Elt F) ((poolM n).view.loc (thr d i))
  | 0 => A.tabP | 1 => A.tabP | 2 => A.tabK | 3 => A.tabK
/-- The lists. -/
def ls : (n : Fin 4) → Buf (Elt F) ((listM n).view.loc (thr d i))
  | 0 => A.list 0 | 1 => A.list 1 | 2 => A.list 2 | 3 => A.list 3
/-- The results once written. -/
def out : (n : Fin 4) → Buf (Elt F) ((outM n).view.loc (thr d i))
  | 0 => A.res 0 | 1 => A.res 1 | 2 => A.res 2 | 3 => A.res 3

theorem read_list (n : Fin 4) (k : Fin 8) (x : S168.Idx) :
    (listK i n k).view.read (Elt F) (A.ls d i n) x
      = A.list n ((Rect.unit (s := S43008) (k1_off1 i (BitVec.ofNat 32 (168 * k.val))) S168.size (k1_off1_inb i k)).emb x) := by
  match n with
  | 0 => rfl
  | 1 => rfl
  | 2 => rfl
  | 3 => rfl

theorem read_tab (n : Fin 4) (x : S4320x128.Idx) :
    (poolAll n).view.read (Elt F) (A.pl d i n) x
      = A.tab n ((Rect.unit (s := S4320x128) ![0, 0] S4320x128.size inb_S4320x128_S4320x128_0_0).emb x) := by
  match n with
  | 0 => rfl
  | 1 => rfl
  | 2 => rfl
  | 3 => rfl

theorem read_out (n : Fin 4) (k : Fin 8) (x : S168x128.Idx) :
    (outK i n k).view.read (Elt F) (A.out d i n) x
      = A.res n ((Rect.unit (s := S43008x128) (k1_off2 i (BitVec.ofNat 32 (168 * k.val))) S168x128.size (k1_off2_inb i k)).emb x) := by
  match n with
  | 0 => rfl
  | 1 => rfl
  | 2 => rfl
  | 3 => rfl

theorem fit (h : A.InRange) : Fit (F := F) d i (A.pl d i) (A.ls d i) (A.out d i) where
  inRange n k x := by rw [read_list]; exact h _ _
  rows n k g hg e := by
    funext x
    show _ = (outK i n k).view.read (Elt F) (A.out d i n) x
    rw [read_out]
    unfold SparseCore.gatherPayload
    rw [read_tab]
    unfold res gath
    refine congrArg _ (funext fun a => ?_)
    match a with
    | ⟨0, h0⟩ =>
      refine Fin.ext ?_
      rw [Rect.emb_apply]
      have ei : gathers_S4320x128_S168x128.idx (SparseCore.rows g rfl hg) x ⟨0, h0⟩ = _ :=
        Shape.Gathers.idx_axis gathers_S4320x128_S168x128 (SparseCore.rows g rfl hg) x
      rw [ei]
      show 0 + 1 * (g _).toNat = (A.list n (listIx _)).toNat % 4320
      rw [Nat.mod_eq_of_lt (h _ _), e, read_list, Nat.zero_add, Nat.one_mul]
      refine congrArg (fun j => (A.list n j).toNat) (funext fun b => ?_)
      match b with
      | ⟨0, _⟩ =>
        refine Fin.ext ?_
        rw [Rect.emb_apply]
        show _ = (((Rect.unit (s := S43008x128) (k1_off2 i (BitVec.ofNat 32 (168 * k.val))) S168x128.size (k1_off2_inb i k)).emb x) 0).val
        rw [Rect.emb_apply]
        simp only [Rect.off_unit, Rect.stride_unit, k1_off1_eq, k1_off2_eq]
        have hr : ∀ y : Fin S168.numel, (S168.rowMajor.symm y 0).val = y.val := fun y => by
          have := Shape.rowMajor_val_one (S168.rowMajor.symm y)
          rw [← this]; exact congrArg Fin.val (Equiv.apply_symm_apply S168.rowMajor y)
        exact congrArg (fun z => 2688 * (i 1).val + 1344 * (i 0).val + 168 * k.val + 1 * z) (hr _)
    | ⟨1, h1⟩ =>
      refine Fin.ext ?_
      rw [Rect.emb_apply]
      show _ = (((Rect.unit (s := S43008x128) (k1_off2 i (BitVec.ofNat 32 (168 * k.val))) S168x128.size (k1_off2_inb i k)).emb x) 1).val
      rw [Rect.emb_apply]
      simp only [Rect.off_unit, Rect.stride_unit, k1_off2_eq]
      exact congrArg (fun z => 0 + 1 * z)
        (Shape.Gathers.idx_of_ne gathers_S4320x128_S168x128 (SparseCore.rows g rfl hg) x ⟨1, h1⟩ Nat.one_ne_zero)

end Ops

/-! ## The shares -/

/-- A tile's number among the thirty-two, and a slot's among the hundred and twenty-eight. -/
abbrev tileE : Fin 2 × Fin 16 ≃ Fin (2 * 16) := finProdFinEquiv
/-- Cores, tiles and slots, numbered together. -/
abbrev slotE : Fin 2 × Fin 16 × Fin 4 ≃ Fin (2 * (16 * 4)) :=
  (Equiv.prodCongr (Equiv.refl _) finProdFinEquiv).trans finProdFinEquiv

/-- Two outputs read one table: each has a half of it. -/
def half : Fin 4 → PosShare TreeShare
  | 0 => fullShare.left | 1 => fullShare.right | 2 => fullShare.left | 3 => fullShare.right
/-- A tile's share of a table, for one slot. -/
def poolShare (i : grid1.Coords) (n b : Fin 4) : PosShare TreeShare :=
  pieceOf (half n) (2 * (16 * 4)) (by decide) (slotE (i 0, i 1, b))
/-- A tile's share of a list. -/
def listShare (i : grid1.Coords) : PosShare TreeShare := pieceOf fullShare (2 * 16) (by decide) (tileE (i 0, i 1))

/-! ## What the handshakes carry -/

section Parts

variable (A : Ops F) (d : Dev nD) (i : grid1.Coords)

/-- What a tile has of the call's arrays, with its chunks at the stage `p`. -/
def part (p : Stage) : sProp 𝕄 :=
  iprop((bigSep Finset.univ fun b : Fin 4 => bigSep Finset.univ fun n : Fin 4 => poolPts d i (A.pl d i) (poolShare i) b n)
    ∗ (bigSep Finset.univ fun n : Fin 4 => listPts d i (A.ls d i) (listShare i) n)
    ∗ bigSep Finset.univ fun x : Fin 4 × Fin 8 => chunkRes d i (A.out d i) p x)

instance part_storable (p : Stage) : BI.Storable (upEmb : UEmb _ 𝕄) (part A d i p) := by
  unfold part; cases p <;> · unfold chunkRes; infer_instance

end Parts

/-- A core and a tile as coordinates of the grid. -/
def coordsV (c : Fin 2) (s : Fin 16) : grid1.Coords :=
  fun | 0 => c | 1 => s | ⟨_ + 2, h⟩ => absurd h (Nat.not_lt.2 (Nat.le_add_left _ _))

theorem nCore_eq : ∀ q, (K (F := F)).nCore q = 2 | 0 => rfl
theorem nSub_eq : ∀ q, (K (F := F)).nSub q = 16 | 0 => rfl

section Payload

variable (A : Dev nD → Ops F)

/-- A SparseCore's parts are its sixteen tiles'. -/
def parts (d : Dev nD) (c : Fin 2) (p : Stage) : sProp 𝕄 :=
  bigSep Finset.univ fun s : Fin 16 => part (A d) d (coordsV c s) p

instance parts_storable (d : Dev nD) (c : Fin 2) (p : Stage) : BI.Storable (upEmb : UEmb _ 𝕄) (parts A d c p) := by
  unfold parts; infer_instance

/-- What the handshakes carry. -/
def P : (K (F := F)).Pay (nD := nD) (Val := Elt F) (Name := ℕ) (U := UU) where
  st := fun q d c => parts A d (Fin.cast (nCore_eq q) c) .todo
  dn := fun q d c => parts A d (Fin.cast (nCore_eq q) c) .done
  go := fun q d c s => part (A d) d (coordsV (Fin.cast (nCore_eq q) c) (Fin.cast (nSub_eq q) s)) .todo
  td := fun q d c s => part (A d) d (coordsV (Fin.cast (nCore_eq q) c) (Fin.cast (nSub_eq q) s)) .done
  x := fun _ _ => iprop(emp)

instance P_storable : (P A).IsStorable where
  st q d c := parts_storable A d (Fin.cast (nCore_eq q) c) .todo
  dn q d c := parts_storable A d (Fin.cast (nCore_eq q) c) .done
  go q d c s := part_storable (A d) d (coordsV (Fin.cast (nCore_eq q) c) (Fin.cast (nSub_eq q) s)) .todo
  td q d c s := part_storable (A d) d (coordsV (Fin.cast (nCore_eq q) c) (Fin.cast (nSub_eq q) s)) .done

theorem vecSplit : (K (F := F)).VecSplit' (P A) 0 := by
  intro d c
  show parts A d (Fin.cast (nCore_eq 0) c) .todo ⊢ |={Set.univ}=> iprop(parts A d (Fin.cast (nCore_eq 0) c) .todo
    ∗ (parts A d (Fin.cast (nCore_eq 0) c) .done -∗ parts A d (Fin.cast (nCore_eq 0) c) .done))
  iintro H; imodintro
  isplitl [H]; · iexact H
  iintro H; iexact H

end Payload

/-! ## A tile's own buffers and semaphores -/

section Own

variable (d : Dev nD) (i : grid1.Coords)

/-- The buffers the tile's lists of row numbers go through, -/
def idxRef : Fin 4 → Ref sig .scVector
  | 0 => cc1_scratch0 | 1 => cc1_scratch1 | 2 => cc1_scratch2 | 3 => cc1_scratch3
theorem idxRef_injective : Function.Injective idxRef := by decide

/-- and the semaphores: a slot's two, and each chunk's. -/
def semOf : Fin 4 ⊕ Fin 4 ⊕ Fin 4 × Fin 8 → DmaSem sig
  | .inl b => gSem b
  | .inr (.inl b) => wSem b
  | .inr (.inr x) => fSem x.1 x.2
theorem semOf_injective : Function.Injective semOf := by decide +kernel

/-- Its buffers' references on the device; its semaphores' cells. -/
abbrev idxDev (b : Fin 4) : DevRef τ sig := (Proc.scVector (cV i) (jV i)).devRef (idxRef b)
/-- A tile's row buffer, as a buffer of the device. -/
abbrev rowDev : DevRef τ sig := (Proc.scVector (cV i) (jV i)).devRef cc1_scratch4
/-- A semaphore of a tile. -/
abbrev cellOf (x : Fin 4 ⊕ Fin 4 ⊕ Fin 4 × Fin 8) : GSem nD τ sig := (thr d i, .dma (semOf x))

/-- Among the tile's own buffers are its four lists' and the row buffer; -/
theorem ownBufs_split : ∃ R : sProp 𝕄, ownBufs (thr d i)
    = iprop((bigSep Finset.univ fun b : Fin 4 => iprop(∃ f, ((d, idxDev i b) : Loc nD τ sig) ↦{fullShare} f))
        ∗ (∃ f, ((d, rowDev i) : Loc nD τ sig) ↦{fullShare} f) ∗ R) := by
  have hinj : Function.Injective (idxDev i) := fun a b h => idxRef_injective (Proc.devRef_injective _ h)
  have hsub : Finset.univ.image (idxDev i) ⊆ ownRefs (τ := τ) (sig := sig) (Proc.scVector (cV i) (jV i)) := fun x hx => by
    obtain ⟨b, -, rfl⟩ := Finset.mem_image.mp hx
    refine SparseCore.Cfg.mem_ownRefs_of_owner ?_
    match b with
    | 0 => rfl
    | 1 => rfl
    | 2 => rfl
    | 3 => rfl
  have hrow : rowDev i ∈ ownRefs (τ := τ) (sig := sig) (Proc.scVector (cV i) (jV i)) \ Finset.univ.image (idxDev i) := by
    refine Finset.mem_sdiff.mpr ⟨SparseCore.Cfg.mem_ownRefs_of_owner rfl, fun hx => ?_⟩
    obtain ⟨b, -, hb⟩ := Finset.mem_image.mp hx
    have hne : ∀ b : Fin 4, idxRef b ≠ cc1_scratch4 := by decide
    exact hne b (Proc.devRef_injective _ hb)
  unfold SparseCore.Cfg.ownBufs
  rw [SparseCore.bigSep_sdiff_split' hsub, SparseCore.bigSep_image_of_injOn hinj.injOn, SparseCore.bigSep_erase' hrow]
  exact ⟨_, rfl⟩

/-- and among its semaphores at zero those of its slots and chunks. -/
theorem ownSems0_split : ∃ R : sProp 𝕄, ownSems0 (thr d i)
    = iprop((bigSep Finset.univ fun x => semVal (cellOf d i x) 0) ∗ R) := by
  have hinj : Function.Injective (cellOf d i) := fun a b h => semOf_injective (SemLoc.dma.inj (Prod.mk.inj h).2)
  have hsc : ∀ x, (SemLoc.dma (semOf x) : SemLoc sig).isScoped .scVector = true := by decide +kernel
  have hsub : Finset.univ.image (cellOf d i) ⊆ ownCells (thr d i) := fun g hg => by
    obtain ⟨x, -, rfl⟩ := Finset.mem_image.mp hg
    exact SparseCore.Cfg.mem_ownCells.mpr ⟨rfl, hsc x⟩
  unfold SparseCore.Cfg.ownSems0
  rw [SparseCore.bigSep_sdiff_split' hsub, SparseCore.bigSep_image_of_injOn hinj.injOn]
  exact ⟨_, rfl⟩

/-! ## The row buffer's four slots -/

theorem rowSet_eq (b : Fin 4) : (rowM b).view.set = (slotR b).set :=
  (View.set_reshape _ _).trans (View.set_slice_whole _ _)

theorem mem_slot (b : Fin 4) (x : S4x168x128.Idx) : x ∈ (slotR b).set ↔ (x 0).val = b.val := by
  rw [Rect.mem_set_unit]
  constructor
  · intro h; have h0 := h 0
    change b.val ≤ (x 0).val ∧ (x 0).val < b.val + 1 at h0; omega
  · intro h a
    match a with
    | 0 => show b.val ≤ (x 0).val ∧ (x 0).val < b.val + 1; omega
    | 1 => exact ⟨Nat.zero_le _, (Nat.zero_add _).symm ▸ (x 1).isLt⟩
    | 2 => exact ⟨Nat.zero_le _, (Nat.zero_add _).symm ▸ (x 2).isLt⟩

theorem slots_disjoint : ∀ a ∈ (Finset.univ : Finset (Fin 4)), ∀ b ∈ (Finset.univ : Finset (Fin 4)), a ≠ b →
    Disjoint (slotR a).set (slotR b).set := fun a _ b _ h =>
  Finset.disjoint_left.mpr fun x hx hy => h (Fin.ext (((mem_slot a x).mp hx).symm.trans ((mem_slot b x).mp hy)))

theorem slots_cover : (Finset.univ : Finset (Fin 4)).biUnion (fun b => (slotR b).set) = Finset.univ :=
  Finset.eq_univ_iff_forall.mpr fun x => Finset.mem_biUnion.mpr ⟨x 0, Finset.mem_univ _, (mem_slot _ x).mpr rfl⟩

theorem rowPts_eq (b : Fin 4) : rowPts (F := F) d i b = iprop(∃ f, ((d, rowDev i) : Loc nD τ sig) ↦[(slotR b).set]{fullShare} f) := by
  unfold rowPts; rw [rowSet_eq]

theorem rows_split (f : Buf (Elt F) ((d, rowDev i) : Loc nD τ sig)) :
    (((d, rowDev i) : Loc nD τ sig) ↦{fullShare} f : sProp 𝕄) ⊢ bigSep Finset.univ fun b : Fin 4 => rowPts d i b := by
  refine (Entails.of_eq (show _ = bigSep Finset.univ fun b : Fin 4 => (((d, rowDev i) : Loc nD τ sig) ↦[(slotR b).set]{fullShare} f : sProp 𝕄) from ?_)).trans
    (bigSep_mono fun b _ => ?_)
  · rw [← pointsTo_biUnion Finset.univ (ℓ := ((d, rowDev i) : Loc nD τ sig)) (fun b => (slotR b).set) slots_disjoint, slots_cover]
  · rw [rowPts_eq]
    exact BIClass.exists_intro (Φ := fun f => (((d, rowDev i) : Loc nD τ sig) ↦[(slotR b).set]{fullShare} f : sProp 𝕄)) f

theorem rows_join [FloatOps F] : (bigSep Finset.univ fun b : Fin 4 => rowPts (F := F) d i b)
    ⊢ (iprop(∃ f, ((d, rowDev i) : Loc nD τ sig) ↦{fullShare} f) : sProp 𝕄) := by
  simp only [rowPts_eq]
  refine (bigSep_exists_pi Finset.univ (fun b (f : Buf (Elt F) ((d, rowDev i) : Loc nD τ sig)) =>
    (((d, rowDev i) : Loc nD τ sig) ↦[(slotR b).set]{fullShare} f : sProp 𝕄))).trans ?_
  iintro ⟨%fs, H⟩
  ihave H' := (pointsTo_biUnion_join (ℓ := ((d, rowDev i) : Loc nD τ sig)) (q := fullShare) (Val := Elt F) Finset.univ (fun b => (slotR b).set) fs (fs 0) slots_disjoint) $$ H
  rw [slots_cover]
  icases H' with ⟨%g, -, Hg⟩
  iexists g; iexact Hg

theorem idxPts_eq : (bigSep Finset.univ fun b : Fin 4 => idxPts (F := F) d i b)
    = bigSep Finset.univ fun b : Fin 4 => iprop(∃ f, ((d, idxDev i b) : Loc nD τ sig) ↦{fullShare} f) := by
  refine bigSep_congr fun b _ => ?_
  have hs : ∀ b : Fin 4, (idxM b).view.set = Finset.univ
    | 0 => View.set_whole _
    | 1 => View.set_whole _
    | 2 => View.set_whole _
    | 3 => View.set_whole _
  unfold idxPts; rw [hs]
  match b with
  | 0 => rfl
  | 1 => rfl
  | 2 => rfl
  | 3 => rfl

/-! ## The task -/

variable (A : Ops F)

theorem cells_eq : (bigSep Finset.univ fun x => semVal (cellOf d i x) 0 : sProp 𝕄)
    = iprop((bigSep Finset.univ fun b => semVal (thr d i, .dma (gSem b)) 0) ∗ (bigSep Finset.univ fun b => semVal (thr d i, .dma (wSem b)) 0)
        ∗ bigSep Finset.univ fun x : Fin 4 × Fin 8 => semVal (thr d i, .dma (fSem x.1 x.2)) 0) := by
  rw [bigSep_univ_sum, bigSep_univ_sum]; rfl

theorem Inv_eq (p : Stage) :
    Inv d i (A.pl d i) (A.ls d i) (A.out d i) (poolShare i) (listShare i) ⟨fun _ => .free, fun _ => p⟩
      ⊣⊢ iprop(part A d i p ∗ (bigSep Finset.univ fun b : Fin 4 => idxPts d i b) ∗ (bigSep Finset.univ fun b : Fin 4 => rowPts d i b)
          ∗ bigSep Finset.univ fun x => semVal (cellOf d i x) 0) := by
  rw [cells_eq]
  unfold Inv part
  simp only [slotRes_free]
  rw [bigSep_sep', bigSep_sep', bigSep_sep', bigSep_sep']
  constructor
  · iintro ⟨⟨Hi, Hr, Hg, Hw, Hp⟩, Hc, Hl, Hf⟩
    isplitl [Hp Hl Hc]
    · isplitl [Hp]; · iexact Hp
      isplitl [Hl]; · iexact Hl
      iexact Hc
    isplitl [Hi]; · iexact Hi
    isplitl [Hr]; · iexact Hr
    isplitl [Hg]; · iexact Hg
    isplitl [Hw]; · iexact Hw
    iexact Hf
  · iintro ⟨⟨Hp, Hl, Hc⟩, Hi, Hr, Hg, Hw, Hf⟩
    isplitl [Hp Hi Hr Hg Hw]
    · isplitl [Hi]; · iexact Hi
      isplitl [Hr]; · iexact Hr
      isplitl [Hg]; · iexact Hg
      isplitl [Hw]; · iexact Hw
      iexact Hp
    isplitl [Hc]; · iexact Hc
    isplitl [Hl]; · iexact Hl
    iexact Hf

variable [FloatOps F]

/-- One tile's task: from its part with the chunks to do, to its part with them done. -/
theorem tile_task (h : A.InRange) (O : CellTallies nD τ sig (HIx 1)) (W : Waits sig (HIx 1)) (hO : ∀ g, O g none = 0) :
    iprop(levAts (K (F := F)).L (K (F := F)).lev ∗ emp ∗ part A d i .todo
        ∗ scopedBufs (thr d i) ∗ scopedSems0 (thr d i) ∗ owes (thr d i) O W)
      ⊢ wp frame (wpE (defs₀ (F := F)) 𝒱₀ (thr d i) none) Set.univ (run (F := F) i order)
          fun _ => iprop(part A d i .done ∗ scopedBufs (thr d i) ∗ scopedSems0 (thr d i)
            ∗ ∃ W', ⌜∀ p ∈ W', p ∈ W ∨ p.2 = none⌝ ∗ owes (thr d i) O W') := by
  obtain ⟨R, hR⟩ := ownBufs_split (F := F) d i
  obtain ⟨R', hR'⟩ := ownSems0_split (F := F) d i
  rw [(K (F := F)).scopedBufs_V facts d (cV i) (jV i), SparseCore.Cfg.scopedSems0_V (Val := Elt F) d (cV i) (jV i)]
  set_option maxRecDepth 65536 in
  show iprop(levAts (K (F := F)).L (K (F := F)).lev ∗ emp ∗ part A d i .todo ∗ ownBufs (thr d i) ∗ ownSems0 (thr d i) ∗ owes (thr d i) O W)
      ⊢ wp frame (wpE (defs₀ (F := F)) 𝒱₀ (thr d i) none) Set.univ (run (F := F) i order)
          fun _ => iprop(part A d i .done ∗ ownBufs (thr d i) ∗ ownSems0 (thr d i) ∗ ∃ W', ⌜∀ p ∈ W', p ∈ W ∨ p.2 = none⌝ ∗ owes (thr d i) O W')
  rw [hR, hR', ← idxPts_eq]
  have key := run_sound (pq := poolShare i) (lq := listShare i) (A.fit d i h) hO order ⟨fun _ => .free, fun _ => .todo⟩ ⟨fun _ => .free, fun _ => .done⟩ exec_order W
  generalize run (F := F) i order = p at key ⊢
  iintro ⟨#Hlv, -, Hp, ⟨Hi, ⟨%f, Hr⟩, HR⟩, ⟨Hs, HR'⟩, HO⟩
  ihave Hr' := (rows_split d i f) $$ Hr
  ihave HI := (Inv_eq d i A .todo).2 $$ [Hp Hi Hr' Hs]
  · isplitl [Hp]; · iexact Hp
    isplitl [Hi]; · iexact Hi
    isplitl [Hr']; · iexact Hr'
    iexact Hs
  iapply (wp_wand_r frame _ _)
  isplitl [HI HO]
  · iapply key
    isplitr; · iexact Hlv
    isplitl [HI]; · iexact HI
    iexact HO
  iintro %_ ⟨%W', %hW', HI, HO⟩
  ihave HI' := (Inv_eq d i A .done).1 $$ HI
  icases HI' with ⟨Hp, Hi, Hr, Hs⟩
  ihave Hr' := (rows_join d i) $$ Hr
  isplitl [Hp]; · iexact Hp
  isplitl [Hi Hr' HR]
  · isplitl [Hi]; · iexact Hi
    isplitl [Hr']; · iexact Hr'
    iexact HR
  isplitl [Hs HR']
  · isplitl [Hs]; · iexact Hs
    iexact HR'
  iexists W'
  isplitr; · ipureintro; exact hW'
  iexact HO

end Own

section Obl

variable [FloatOps F]

theorem defs₀_vector (c : Fin τ.nSC) (s : Fin τ.nSub) :
    defs₀ (F := F) (.scVector c s) 1 ()
      = SparseCore.onTile hcore1 hsub1 (fun c s => run (F := F) (coordsV c s) order) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (A : Dev nD → Ops F) (h : ∀ d, (A d).InRange) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task d (coordsV ⟨_, hci.1⟩ ⟨_, hci.2⟩) (A d) (h d) O W hO).trans (wp_mono frame _ _ fun _ => obl_post)

end Obl

end Cert.Proof.Sc

end
-- ==== Proof.Relayout.lean ====
/- The last kernel call: each of its sixteen grid steps lays the gathered rows of eight queries out as a block of the result. -/
module

public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.Pipeline.Value
public import Idealize.ShloMosaic.Lib.WordCmp
public import proofs.«01_k».proof.Proof.Region
public import proofs.«01_k».proof.Proof.Gen.KernelIdeal.Skeleton

@[expose] public section

set_option maxRecDepth 16384

noncomputable section

namespace Cert.Proof.Sc

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Layout

/-- Row `r`, column `l` of a grid step's block of gathered rows. -/
def blkIx (r : Fin 2688) (l : Fin 128) : S2688x128.Idx := fun | 0 => r | 1 => l

/-- Eight queries' gathered rows, 336 to a query, laid out: column `l` of row `r` of query `b` is column `l % 128` of gathered
    row `56 (l / 128) + r` of that query. -/
def relay {α : Type} (x : S2688x128.Idx → α) : S8x50x768.Idx → α := fun i =>
  have h0 : (i 0).val < 8 := (i 0).isLt
  have h1 : (i 1).val < 50 := (i 1).isLt
  have h2 : (i 2).val < 768 := (i 2).isLt
  x (blkIx ⟨336 * (i 0).val + 56 * ((i 2).val / 128) + (i 1).val, by omega⟩ ⟨(i 2).val % 128, by omega⟩)

/-- One store's payload, the fifty rows read at row `r` put at query `b` and column `c`, agrees with the layout. -/
theorem lays_piece (x : S2688x128.Idx → Elt F .f32) (r b c : ℕ) (h : ∀ a, (![r, 0] : Fin 2 → ℕ) a + S50x128.size a ≤ S2688x128.size a)
    (h' : ∀ a, (![b, 0, c] : Fin 3 → ℕ) a + S1x50x128.size a ≤ S8x50x768.size a) (w : S1x50x128.Idx → Elt F .f32)
    (hw : w = shapeCast S1x50x128 (shapeCast S50x128 (View.ld x (Rect.unit (s := S2688x128) ![r, 0] S50x128.size h))
      shapeCasts_S50x128_S50x128) shapeCasts_S50x128_S1x50x128)
    (hr : r = 336 * b + 56 * (c / 128)) (hc : c % 128 = 0) (i : S1x50x128.Idx) :
    w i = relay x ((Rect.unit (s := S8x50x768) ![b, 0, c] S1x50x128.size h').emb i) := by
  rw [hw]
  refine (shapeCast_addUnit_apply (d := ![50, 128]) _ _ i).trans ((congrFun (shapeCast_self (s := S50x128) _ _) _).trans ?_)
  refine congrArg x (funext fun a => ?_)
  have h2 : (i 2).val < 128 := (i 2).isLt
  have h0 : (i 0).val < 1 := (i 0).isLt
  subst hr
  fin_cases a
  · refine Fin.ext ?_
    show 336 * b + 56 * (c / 128) + 1 * (i 1).val = 336 * (b + 1 * (i 0).val) + 56 * ((c + 1 * (i 2).val) / 128) + (0 + 1 * (i 1).val)
    omega
  · refine Fin.ext ?_
    show 0 + 1 * (i 2).val = (c + 1 * (i 2).val) % 128
    omega

/-- What a list of stores leaves, when each agrees with the layout and together they tile the block. -/
theorem relay_of_pieces {κ : Kind} {sp : Space} (v : View sig κ sp S8x50x768 .f32) (f : v.ty.Contents (Elt F)) (x : S2688x128.Idx → Elt F .f32)
    (L : List (View.Piece (Elt F) S8x50x768 .f32)) (h : ∀ p ∈ L, ∀ i : p.1.shape.Idx, p.2 i = relay x (p.1.emb i))
    (hc : View.Piece.tiled L ![1, 50, 128] = true) : v.read (Elt F) (v.writes (Elt F) f L) = relay x :=
  funext fun y => v.read_writes_apply_of_pieces f (relay x) L h y (View.cover_of_tiled L _ hc y)

end Layout

section Region

-- what the arrays hold when the region is entered
variable (V : (c : Dev nD) → (b : Ref sig .tc) → Buf (Elt F) ((c : Thread nD τ).loc b))

/-- The block of an argument or result that a window shows at a grid step. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An argument's block holds, before the step, what its window fetched. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 4000000 in
/-- The body, run: the arguments' blocks stay, the results' blocks hold the rows laid out. -/
theorem sound_relayout (c : Dev nD) (E : Set ℕ) (i : grid2.Coords) (arg1 : Memref sig .tc .vmem S2688x128 .f32) (harg1 : arg1.IsWhole) (arg2 : Memref sig .tc .vmem S2688x128 .f32) (harg2 : arg2.IsWhole) (arg3 : Memref sig .tc .vmem S2688x128 .f32) (harg3 : arg3.IsWhole) (arg4 : Memref sig .tc .vmem S2688x128 .f32) (harg4 : arg4.IsWhole) (arg5 : Memref sig .tc .vmem S8x50x768 .f32) (harg5 : arg5.IsWhole) (arg6 : Memref sig .tc .vmem S8x50x768 .f32) (harg6 : arg6.IsWhole) (arg7 : Memref sig .tc .vmem S8x50x768 .f32) (harg7 : arg7.IsWhole) (arg8 : Memref sig .tc .vmem S8x50x768 .f32) (harg8 : arg8.IsWhole)
    (x0 : Vec F S2688x128 .f32) (x1 : Vec F S2688x128 .f32) (x2 : Vec F S2688x128 .f32) (x3 : Vec F S2688x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (relay x0) ∗ owns (c : Thread nD τ) arg6 fullShare (relay x1) ∗ owns (c : Thread nD τ) arg7 fullShare (relay x2) ∗ owns (c : Thread nD τ) arg8 fullShare (relay x3)) -∗ K ⟨⟩))
      ⊢ wp frame (wpE (defs₀ (F := F)) Variants.none c none) E (cc2__relayout_body i arg1 harg1 arg2 harg2 arg3 harg3 arg4 harg4 arg5 harg5 arg6 harg6 arg7 harg7 arg8 harg8) K := by
  simp only [cc2__relayout_body_eq_skeleton]; unfold cc2__relayout_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact relay_of_pieces _ _ _ _ (by
      repeat
        first
          | exact List.forall_mem_nil _
          | refine List.forall_mem_cons.2 ⟨lays_piece _ _ _ _ (by decide) (by decide) _ rfl (by rfl) (by rfl), ?_⟩) (by rfl)
  isplitl [H5]
  · iexists _; isplitr
    swap; · iexact H5
    ipureintro
    exact relay_of_pieces _ _ _ _ (by
      repeat
        first
          | exact List.forall_mem_nil _
          | refine List.forall_mem_cons.2 ⟨lays_piece _ _ _ _ (by decide) (by decide) _ rfl (by rfl) (by rfl), ?_⟩) (by rfl)
  isplitl [H6]
  · iexists _; isplitr
    swap; · iexact H6
    ipureintro
    exact relay_of_pieces _ _ _ _ (by
      repeat
        first
          | exact List.forall_mem_nil _
          | refine List.forall_mem_cons.2 ⟨lays_piece _ _ _ _ (by decide) (by decide) _ rfl (by rfl) (by rfl), ?_⟩) (by rfl)
  iexists _; isplitr
  swap; · iexact H7
  ipureintro
  exact relay_of_pieces _ _ _ _ (by
      repeat
        first
          | exact List.forall_mem_nil _
          | refine List.forall_mem_cons.2 ⟨lays_piece _ _ _ _ (by decide) (by decide) _ rfl (by rfl) (by rfl), ?_⟩) (by rfl)

/-- What the call's run keeps: the arrays it starts from, what each window's block holds after a step, and what the thread owes. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => relay (iblk2 V c 0 t)
    | ⟨5, _⟩ => relay (iblk2 V c 1 t)
    | ⟨6, _⟩ => relay (iblk2 V c 2 t)
    | ⟨7, _⟩ => relay (iblk2 V c 3 t)
  Φ _ := keep spec2 c
  q _ := fullShare
  owed _ := (K (F := F)).Otc c 1
  recorded _ := seen (F := F) c 8

/-- The arrays at the start. -/
theorem A_eq2 (c : Dev nD) (w : Fin cfg2.W) : (dat2 V c).A w = V c (Pipeline.arrRef spec2 w) := by
  dsimp only [dat2]

/-- What each window's block holds after a step. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = relay (iblk2 V c 0 t) := by dsimp only [dat2]
theorem after2_5 (c : Dev nD) (t : Fin cfg2.N) : (dat2 V c).after 5 t = relay (iblk2 V c 1 t) := by dsimp only [dat2]
theorem after2_6 (c : Dev nD) (t : Fin cfg2.N) : (dat2 V c).after 6 t = relay (iblk2 V c 2 t) := by dsimp only [dat2]
theorem after2_7 (c : Dev nD) (t : Fin cfg2.N) : (dat2 V c).after 7 t = relay (iblk2 V c 3 t) := by dsimp only [dat2]

/-- What each argument's block holds before a step. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What a step's body is given. -/
def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What a step's body gives back. -/
def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- A step's body, on the blocks that the windows show. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt none t.succ = (dat2 V c).owesAt none t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_relayout c Set.univ (grid2.coords t) _ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row2 (t : Fin cfg2.N) :
    defs₀ (F := F) .tc cfg2.body (cfg2.bodyArgs t (cfg2.slots t)) = bodyAt2 t := by
  rfl

/-- A step's body meets what the call asks of it. -/
theorem body_obligation2 (c : Dev nD) : BodyObligation (dat2 (F := F) V c) (defs₀ (F := F)) Variants.none none Set.univ := fun t => by
  rw [bigSep_W2, bigSep_W2, defs₀_row2]
  exact triple_restated (sound_body2 V c t) rfl .rfl fun _ => .rfl

end Region

end Cert.Proof.Sc

end
-- ==== Proof.Contents.lean ====
/- What every buffer of a device holds at each stage of the program, as one function of what it held at the start. -/
module

public import Idealize.ShloMosaic.Lib.Pipeline.FrameBody
public import Idealize.ShloMosaic.Lib.Pipeline.RegionsLoop
public import Idealize.ShloMosaic.Lib.Pipeline.FrameSuffix
public import Idealize.ShloMosaic.Lib.Tactic
public import proofs.«01_k».proof.Proof.Pay
public import proofs.«01_k».proof.Proof.Select
public import proofs.«01_k».proof.Proof.Relayout

@[expose] public section

noncomputable section

namespace Cert.Proof.Sc

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig (HIx 1) (Elt F) ℕ UU ℕ

variable (m : (ℓ : Loc nD τ sig) → Buf (Elt F) ℓ)

/-- The buffers of a device when the program starts. -/
def W0 (c : Dev nD) : Valuation τ sig (Elt F) := fun b => m (c, b)
/-- The contents at the start, buffer by buffer. -/
abbrev V0 : (c : Dev nD) → (b : Ref sig .tc) → Buf (Elt F) ((c : Thread nD τ).loc b) := fun c b => W0 m c b

/-- After the selection: its results written, everything else as it was. -/
def W1 (c : Dev nD) : Valuation τ sig (Elt F) :=
  Pipeline.withArrays spec0 c (W0 m c) fun w => (dat0 (V0 m) c).arrAt w cfg0.N
/-- The contents after the first call, buffer by buffer. -/
abbrev V1 : (c : Dev nD) → (b : Ref sig .tc) → Buf (Elt F) ((c : Thread nD τ).loc b) := fun c b => W1 m c b

/-- The host operations between the selection and the gather: the two tables and the four lists, flat. -/
def flat : List (HloOp τ sig (Elt F)) :=
  [ StableHlo.reshape main_arg3 main_v1 (rfl : (.f32 : EltTy) = .f32) shapeCasts_S36x20x768_S4320x128,
    StableHlo.reshape main_arg5 main_v2 (rfl : (.f32 : EltTy) = .f32) shapeCasts_S36x20x768_S4320x128,
    StableHlo.reshape main_v0_0 main_v3 (rfl : (.i32 : EltTy) = .i32) shapeCasts_S128x336_S43008,
    StableHlo.reshape main_v0_1 main_v4 (rfl : (.i32 : EltTy) = .i32) shapeCasts_S128x336_S43008,
    StableHlo.reshape main_v0_2 main_v5 (rfl : (.i32 : EltTy) = .i32) shapeCasts_S128x336_S43008,
    StableHlo.reshape main_v0_3 main_v6 (rfl : (.i32 : EltTy) = .i32) shapeCasts_S128x336_S43008 ]

/-- Before the gather. -/
def W2 (c : Dev nD) : Valuation τ sig (Elt F) := StableHlo.after flat (W1 m c)

/-- What the gather reads on device `c`: the two tables and the four lists. -/
def operands (c : Dev nD) : Ops F where
  tabP := W2 m c (Proc.devRef .tc main_v1)
  tabK := W2 m c (Proc.devRef .tc main_v2)
  list := ![W2 m c (Proc.devRef .tc main_v3), W2 m c (Proc.devRef .tc main_v4), W2 m c (Proc.devRef .tc main_v5), W2 m c (Proc.devRef .tc main_v6)]

/-- The gather's results put over `W`. -/
def gathered (c : Dev nD) (W : Valuation τ sig (Elt F)) (f : Fin 4 → S43008x128.Idx → Elt F .f32) : Valuation τ sig (Elt F) :=
  Function.update (Function.update (Function.update (Function.update W (Proc.devRef .tc main_v7_0) (f 0)) (Proc.devRef .tc main_v7_1) (f 1))
    (Proc.devRef .tc main_v7_2) (f 2)) (Proc.devRef .tc main_v7_3) (f 3)

/-- After the gather. -/
def W3 (c : Dev nD) : Valuation τ sig (Elt F) := gathered c (W2 m c) (operands m c).res
/-- The contents after the gather, buffer by buffer. -/
abbrev V3 : (c : Dev nD) → (b : Ref sig .tc) → Buf (Elt F) ((c : Thread nD τ).loc b) := fun c b => W3 m c b

/-- After the gathered rows are laid out. -/
def W4 (c : Dev nD) : Valuation τ sig (Elt F) :=
  Pipeline.withArrays spec2 c (W3 m c) fun w => (dat2 (V3 m) c).arrAt w cfg2.N
/-- The contents after the last call, buffer by buffer. -/
abbrev V4 : (c : Dev nD) → (b : Ref sig .tc) → Buf (Elt F) ((c : Thread nD τ).loc b) := fun c b => W4 m c b

/-- The host operations at the end: the general prompts repeated for every query, and the loss taken out of its block. -/
def close : List (HloOp τ sig (Elt F)) :=
  [ StableHlo.unary main_arg1 main_v9 ((extractStridedSlice S3x768 ![0, 0] · slices_S6x768_S3x768_0_0) : (⟨S6x768, .f32⟩ : BufTy).Contents (Elt F) → (⟨S3x768, .f32⟩ : BufTy).Contents (Elt F)),
    StableHlo.unary main_v9 main_v10 (broadcastInDim S1x3x768 ![1, 2] bcast_S3x768_S1x3x768_1_2 : (⟨S3x768, .f32⟩ : BufTy).Contents (Elt F) → (⟨S1x3x768, .f32⟩ : BufTy).Contents (Elt F)),
    StableHlo.unary main_v10 main_v11 (broadcastInDim S128x3x768 ![0, 1, 2] bcast_S1x3x768_S128x3x768_0_1_2 : (⟨S1x3x768, .f32⟩ : BufTy).Contents (Elt F) → (⟨S128x3x768, .f32⟩ : BufTy).Contents (Elt F)),
    StableHlo.unary main_arg1 main_v12 ((extractStridedSlice S3x768 ![3, 0] · slices_S6x768_S3x768_3_0) : (⟨S6x768, .f32⟩ : BufTy).Contents (Elt F) → (⟨S3x768, .f32⟩ : BufTy).Contents (Elt F)),
    StableHlo.unary main_v12 main_v13 (broadcastInDim S1x3x768 ![1, 2] bcast_S3x768_S1x3x768_1_2 : (⟨S3x768, .f32⟩ : BufTy).Contents (Elt F) → (⟨S1x3x768, .f32⟩ : BufTy).Contents (Elt F)),
    StableHlo.unary main_v13 main_v14 (broadcastInDim S128x3x768 ![0, 1, 2] bcast_S1x3x768_S128x3x768_0_1_2 : (⟨S1x3x768, .f32⟩ : BufTy).Contents (Elt F) → (⟨S128x3x768, .f32⟩ : BufTy).Contents (Elt F)),
    StableHlo.unary main_arg2 main_v15 ((extractStridedSlice S3x768 ![0, 0] · slices_S6x768_S3x768_0_0) : (⟨S6x768, .f32⟩ : BufTy).Contents (Elt F) → (⟨S3x768, .f32⟩ : BufTy).Contents (Elt F)),
    StableHlo.unary main_v15 main_v16 (broadcastInDim S1x3x768 ![1, 2] bcast_S3x768_S1x3x768_1_2 : (⟨S3x768, .f32⟩ : BufTy).Contents (Elt F) → (⟨S1x3x768, .f32⟩ : BufTy).Contents (Elt F)),
    StableHlo.unary main_v16 main_v17 (broadcastInDim S128x3x768 ![0, 1, 2] bcast_S1x3x768_S128x3x768_0_1_2 : (⟨S1x3x768, .f32⟩ : BufTy).Contents (Elt F) → (⟨S128x3x768, .f32⟩ : BufTy).Contents (Elt F)),
    StableHlo.unary main_arg2 main_v18 ((extractStridedSlice S3x768 ![3, 0] · slices_S6x768_S3x768_3_0) : (⟨S6x768, .f32⟩ : BufTy).Contents (Elt F) → (⟨S3x768, .f32⟩ : BufTy).Contents (Elt F)),
    StableHlo.unary main_v18 main_v19 (broadcastInDim S1x3x768 ![1, 2] bcast_S3x768_S1x3x768_1_2 : (⟨S3x768, .f32⟩ : BufTy).Contents (Elt F) → (⟨S1x3x768, .f32⟩ : BufTy).Contents (Elt F)),
    StableHlo.unary main_v19 main_v20 (broadcastInDim S128x3x768 ![0, 1, 2] bcast_S1x3x768_S128x3x768_0_1_2 : (⟨S1x3x768, .f32⟩ : BufTy).Contents (Elt F) → (⟨S128x3x768, .f32⟩ : BufTy).Contents (Elt F)),
    StableHlo.unary main_v0_4 main_v21 ((extractStridedSlice S1x1 ![0, 0] · slices_S8x128_S1x1_0_0) : (⟨S8x128, .f32⟩ : BufTy).Contents (Elt F) → (⟨S1x1, .f32⟩ : BufTy).Contents (Elt F)),
    StableHlo.reshape main_v21 main_v22 (rfl : (.f32 : EltTy) = .f32) shapeCasts_S1x1_S_ ]

/-- At the end. -/
def W5 (c : Dev nD) : Valuation τ sig (Elt F) := StableHlo.after close (W4 m c)

/-- No pipeline reads a table of its own. -/
abbrev adm : (p : Fin 2) → (pcfgs (F := F) p).Adm := fun p => (cfgs p).toPCfg_adm

/-- The two regions' proof data, each at what the arrays hold when it is entered. -/
def pdats : (p : Fin 2) → (c : Dev nD) → Dat τ (Elt F) (HIx 1) ℕ UU ℕ (Pipeline.pin (pcfgs (F := F)) adm p) c
  | ⟨0, _⟩ => fun c => dat0 (V0 m) c
  | ⟨1, _⟩ => fun c => dat2 (V3 m) c

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The selection changes its results only. -/
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((dat0 (V0 m) c).arrAt_in w (h w rfl) _).trans (A_eq0 (V0 m) c w))
  · exact W1_of_ne m c r fun w e => hw ⟨w, e⟩

theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb

end Cert.Proof.Sc

end
-- ==== Proof.Segments.lean ====
/- The two TensorCore calls as steps of the program's run. -/
module

public import Idealize.ShloMosaic.Lib.Pipeline.FrameBody
public import Idealize.ShloMosaic.Lib.Pipeline.RegionsLoop
public import Idealize.ShloMosaic.Lib.Pipeline.FrameSuffix
public import Idealize.ShloMosaic.Lib.Tactic
public import proofs.«01_k».proof.Proof.Contents

@[expose] public section

noncomputable section

namespace Cert.Proof.Sc

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig (HIx 1) (Elt F) ℕ UU ℕ

variable (m : (ℓ : Loc nD τ sig) → Buf (Elt F) ℓ)

/-- Beside the arrays a region takes the generator register and what the core owes. -/
abbrev beside (c : Dev nD) (n k : ℕ) : sProp 𝕄 :=
  iprop((∃ r, prngReg c r) ∗ Pipeline.owesWithin c ((K (F := F)).Otc c n) (seen (F := F) c k))

/-- The waits a region's loop records are within what the thread may have recorded. -/
theorem bound_le (c : Dev nD) (k : ℕ) (cfg : Pipeline.Cfg sig Λ₀) : seen (F := F) c k ∪ cfg.waitPairs none ⊆ seen (F := F) c k := by
  refine Set.union_subset (fun _ h => h) ?_
  rintro p ⟨w, s, rfl⟩
  exact Nat.zero_le _

-- the library's lemmas are stated over the pinned configuration, which unifies with the printed one by unfolding
set_option backward.isDefEq.respectTransparency.types false in
/-- The selection as a step of the TensorCore: from the buffers at the start to the buffers with its results written. -/
def reg0 : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V0 m) c).loose
  hwaits c := Pipeline.cellsWaits_intro _ _ _ _ _ fun w s t => (K (F := F)).mayWait_none _ (fun g => owes_none c 0 g)
  pre c := iprop(StableHlo.held (c : Thread nD τ) (Pipeline.ucRefs τ sig) (W0 m c) ∗ beside c 0 0)
  post c := iprop(StableHlo.held (c : Thread nD τ) (Pipeline.ucRefs τ sig) (W1 m c) ∗ beside c 0 0)
  X c := iprop(∃ r, prngReg c r)
  Y c := iprop(∃ r, prngReg c r)
  Z c := Pipeline.unscopedRest (Ix := HIx 1) (Name := ℕ) (U := UU) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (A_eq0 (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono c _ (B := seen (F := F) c 0) (B' := (pdats m 0 c).bound none 0) (Set.subset_union_left)); iexact HO
    isplitl [Hp]; · iexact Hp
    iexact Hrest
  hin c := by
    rw [show (pdats m 0 c).Φ 0 = keep spec0 c from rfl]; unfold keep
    iintro ⟨Hp, -, Hr⟩
    isplitl [Hr]; · iexact Hr
    iexact Hp
  hout c := by
    rw [Pipeline.ownSems0_none, show (pdats m 0 c).Φ (Fin.last _) = keep spec0 c from rfl]; unfold keep
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V0 m c) (V1 m c) ((pdats m 0 c).arrAt · cfg0.N) (fun w => (W1_arr m c w).symm)
      (fun b hb => W1_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (Pipeline.owesWithin_mono c _ (B := (pdats m 0 c).bound none (Fin.last _)) (B' := seen (F := F) c 0) (bound_le c 0 cfg0)); iexact HO

-- the library's lemmas are stated over the pinned configuration, which unifies with the printed one by unfolding
set_option backward.isDefEq.respectTransparency.types false in
/-- The layout as a step of the TensorCore: from the buffers after the gather to the buffers with the rows laid out. -/
def reg1 : Pipeline.RegionSeg (pcfgs (F := F)) adm (pdats m) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (V3 m) c).loose
  hwaits c := Pipeline.cellsWaits_intro _ _ _ _ _ fun w s t => (K (F := F)).mayWait_none _ (fun g => owes_none c 1 g)
  pre c := iprop(StableHlo.held (c : Thread nD τ) (Pipeline.ucRefs τ sig) (W3 m c) ∗ beside c 1 8)
  post c := iprop(StableHlo.held (c : Thread nD τ) (Pipeline.ucRefs τ sig) (W4 m c) ∗ beside c 1 8)
  X c := iprop(∃ r, prngReg c r)
  Y c := iprop(∃ r, prngReg c r)
  Z c := Pipeline.unscopedRest (Ix := HIx 1) (Name := ℕ) (U := UU) (Lvl := ℕ) spec2 c (V3 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V3 m c) (A_eq2 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono c _ (B := seen (F := F) c 8) (B' := (pdats m 1 c).bound none 0) (Set.subset_union_left)); iexact HO
    isplitl [Hp]; · iexact Hp
    iexact Hrest
  hin c := by
    rw [show (pdats m 1 c).Φ 0 = keep spec2 c from rfl]; unfold keep
    iintro ⟨Hp, -, Hr⟩
    isplitl [Hr]; · iexact Hr
    iexact Hp
  hout c := by
    rw [Pipeline.ownSems0_none, show (pdats m 1 c).Φ (Fin.last _) = keep spec2 c from rfl]; unfold keep
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V3 m c) (V4 m c) ((pdats m 1 c).arrAt · cfg2.N) (fun w => (W4_arr m c w).symm)
      (fun b hb => W4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (Pipeline.owesWithin_mono c _ (B := (pdats m 1 c).bound none (Fin.last _)) (B' := seen (F := F) c 8) (bound_le c 8 cfg2)); iexact HO

end Cert.Proof.Sc

end
-- ==== Proof.Split.lean ====
/- The gather's operands and results, whole, are the thirty-two tiles' parts.

   Each table goes out as two halves of a hundred and twenty-eight shares, each list as thirty-two shares, and each output
   as two hundred and fifty-six chunks of 168 rows. -/
module

public import proofs.«01_k».proof.Proof.Pay

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownRefs ownCells ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Sets -/

theorem fullTab_set : (Rect.unit (s := S4320x128) ![0, 0] S4320x128.size inb_S4320x128_S4320x128_0_0).set = Finset.univ :=
  Finset.eq_univ_iff_forall.mpr fun x => Rect.mem_set_unit.mpr fun a => by
    match a with
    | 0 => exact ⟨Nat.zero_le _, (Nat.zero_add _).symm ▸ (x 0).isLt⟩
    | 1 => exact ⟨Nat.zero_le _, (Nat.zero_add _).symm ▸ (x 1).isLt⟩

/-- Chunk `k` of tile `(c, s)`, as rows of an output. -/
abbrev chunkR (y : (Fin 2 × Fin 16) × Fin 8) : Rect S43008x128 :=
  Rect.unit (s := S43008x128) (k1_off2 (coordsV y.1.1 y.1.2) (BitVec.ofNat 32 (168 * y.2.val))) S168x128.size (k1_off2_inb _ y.2)

theorem mem_chunk (y : (Fin 2 × Fin 16) × Fin 8) (x : S43008x128.Idx) :
    x ∈ (chunkR y).set ↔ (x 0).val / 168 = 16 * y.1.2.val + 8 * y.1.1.val + y.2.val := by
  rw [Rect.mem_set_unit]
  simp only [k1_off2_eq]
  constructor
  · intro h; have h0 := h 0
    change 2688 * y.1.2.val + 1344 * y.1.1.val + 168 * y.2.val ≤ (x 0).val ∧ (x 0).val < 2688 * y.1.2.val + 1344 * y.1.1.val + 168 * y.2.val + 168 at h0
    omega
  · intro h a
    match a with
    | 0 =>
      show 2688 * y.1.2.val + 1344 * y.1.1.val + 168 * y.2.val ≤ (x 0).val ∧ (x 0).val < 2688 * y.1.2.val + 1344 * y.1.1.val + 168 * y.2.val + 168
      omega
    | 1 => exact ⟨Nat.zero_le _, (Nat.zero_add _).symm ▸ (x 1).isLt⟩

theorem chunks_disjoint : ∀ y ∈ (Finset.univ : Finset ((Fin 2 × Fin 16) × Fin 8)), ∀ z ∈ (Finset.univ : Finset ((Fin 2 × Fin 16) × Fin 8)), y ≠ z →
    Disjoint (chunkR y).set (chunkR z).set := fun y _ z _ h =>
  Finset.disjoint_left.mpr fun x hx hy => h (by
    have e := ((mem_chunk y x).mp hx).symm.trans ((mem_chunk z x).mp hy)
    obtain ⟨⟨c, s⟩, k⟩ := y
    obtain ⟨⟨c', s'⟩, k'⟩ := z
    have := c.isLt; have := c'.isLt; have := k.isLt; have := k'.isLt
    simp only at e
    simp only [Prod.mk.injEq, Fin.ext_iff]
    omega)

theorem chunks_cover : (Finset.univ : Finset ((Fin 2 × Fin 16) × Fin 8)).biUnion (fun y => (chunkR y).set) = Finset.univ :=
  Finset.eq_univ_iff_forall.mpr fun x => Finset.mem_biUnion.mpr
    ⟨((⟨(x 0).val / 168 / 8 % 2, Nat.mod_lt _ (by decide)⟩, ⟨(x 0).val / 168 / 16, by
        have : (x 0).val < 43008 := (x 0).isLt
        omega⟩), ⟨(x 0).val / 168 % 8, Nat.mod_lt _ (by decide)⟩), Finset.mem_univ _, (mem_chunk _ x).mpr (by simp only; omega)⟩

/-! ## One array -/

/-- Two big products, one in the other, in either order. -/
theorem bigSep_turn {M : Type} [URA M] {α β : Type} [Fintype α] [Fintype β] (Φ : α → β → sProp M) :
    (bigSep Finset.univ fun a => bigSep Finset.univ fun b => Φ a b) = bigSep Finset.univ fun b => bigSep Finset.univ fun a => Φ a b := by
  rw [← bigSep_univ_prod fun x : α × β => Φ x.1 x.2, bigSep_univ_equiv (Equiv.prodComm β α), bigSep_univ_prod]; rfl

section One

variable {ℓ : Loc nD τ sig} (S : Finset (Idx ℓ)) (f : Buf (Elt F) ℓ)

theorem slots_pts (q : PosShare TreeShare) :
    (bigSep Finset.univ fun x : Fin 2 × Fin 16 => bigSep Finset.univ fun b : Fin 4 =>
        ℓ ↦[S]{pieceOf q (2 * (16 * 4)) (by decide) (slotE (x.1, x.2, b))} f : sProp 𝕄) = ℓ ↦[S]{q} f := by
  rw [pointsTo_piecesOf S f (o := 2 * (16 * 4)) (by decide) q, bigSep_univ_equiv slotE, bigSep_univ_prod, bigSep_univ_prod]
  refine bigSep_congr fun c _ => ?_
  rw [bigSep_univ_prod]

theorem tiles_pts (q : PosShare TreeShare) :
    (bigSep Finset.univ fun x : Fin 2 × Fin 16 => ℓ ↦[S]{pieceOf q (2 * 16) (by decide) (tileE (x.1, x.2))} f : sProp 𝕄) = ℓ ↦[S]{q} f := by
  rw [pointsTo_piecesOf S f (o := 2 * 16) (by decide) q, bigSep_univ_equiv tileE]

end One

/-! ## The call's arrays -/

section Arrays

/-- A TensorCore array's location. -/
abbrev ctl (d : Dev nD) (b : Ref sig .tc) : Loc nD τ sig := (SparseCore.T d : Thread nD τ).loc b

variable (A : Ops F) (d : Dev nD)

/-- The share of its table that a list is served from: two lists read one table. -/
def poolWhole (A : Ops F) (d : Dev nD) : Fin 4 → sProp 𝕄
  | 0 => (ctl d main_v1 ↦{fullShare.left} A.tabP)
  | 1 => (ctl d main_v1 ↦{fullShare.right} A.tabP)
  | 2 => (ctl d main_v2 ↦{fullShare.left} A.tabK)
  | 3 => (ctl d main_v2 ↦{fullShare.right} A.tabK)

theorem pool_pts (n : Fin 4) : (bigSep Finset.univ fun x : Fin 2 × Fin 16 => bigSep Finset.univ fun b : Fin 4 =>
      poolPts d (coordsV x.1 x.2) (A.pl d (coordsV x.1 x.2)) (poolShare (coordsV x.1 x.2)) b n : sProp 𝕄)
    = poolWhole A d n := by
  have hs : ∀ n : Fin 4, (poolAll n).view.set = Finset.univ
    | 0 => (View.set_slice_whole _ _).trans fullTab_set
    | 1 => (View.set_slice_whole _ _).trans fullTab_set
    | 2 => (View.set_slice_whole _ _).trans fullTab_set
    | 3 => (View.set_slice_whole _ _).trans fullTab_set
  unfold poolPts
  simp only [hs]
  match n with
  | 0 => exact slots_pts (ℓ := ctl d main_v1) Finset.univ A.tabP _
  | 1 => exact slots_pts (ℓ := ctl d main_v1) Finset.univ A.tabP _
  | 2 => exact slots_pts (ℓ := ctl d main_v2) Finset.univ A.tabK _
  | 3 => exact slots_pts (ℓ := ctl d main_v2) Finset.univ A.tabK _

/-- A list, whole. -/
def listWhole (A : Ops F) (d : Dev nD) : Fin 4 → sProp 𝕄
  | 0 => (ctl d main_v3 ↦{fullShare} A.list 0)
  | 1 => (ctl d main_v4 ↦{fullShare} A.list 1)
  | 2 => (ctl d main_v5 ↦{fullShare} A.list 2)
  | 3 => (ctl d main_v6 ↦{fullShare} A.list 3)

theorem list_pts (n : Fin 4) : (bigSep Finset.univ fun x : Fin 2 × Fin 16 =>
      listPts d (coordsV x.1 x.2) (A.ls d (coordsV x.1 x.2)) (listShare (coordsV x.1 x.2)) n : sProp 𝕄)
    = listWhole A d n := by
  match n with
  | 0 => exact tiles_pts (ℓ := ctl d main_v3) Finset.univ (A.list 0) _
  | 1 => exact tiles_pts (ℓ := ctl d main_v4) Finset.univ (A.list 1) _
  | 2 => exact tiles_pts (ℓ := ctl d main_v5) Finset.univ (A.list 2) _
  | 3 => exact tiles_pts (ℓ := ctl d main_v6) Finset.univ (A.list 3) _

/-- The four outputs, each at its contents. -/
def outs (f : Fin 4 → S43008x128.Idx → Elt F .f32) : sProp 𝕄 :=
  iprop((ctl d main_v7_0 ↦{fullShare} f 0) ∗ (ctl d main_v7_1 ↦{fullShare} f 1)
    ∗ (ctl d main_v7_2 ↦{fullShare} f 2) ∗ (ctl d main_v7_3 ↦{fullShare} f 3))

/-- `f` as the outputs' contents. -/
def outBuf (f : Fin 4 → S43008x128.Idx → Elt F .f32) (i : grid1.Coords) : (n : Fin 4) → Buf (Elt F) ((outM n).view.loc (thr d i))
  | 0 => f 0 | 1 => f 1 | 2 => f 2 | 3 => f 3

/-- A result, whole. -/
def outWhole (d : Dev nD) (f : Fin 4 → S43008x128.Idx → Elt F .f32) : Fin 4 → sProp 𝕄
  | 0 => (ctl d main_v7_0 ↦{fullShare} f 0)
  | 1 => (ctl d main_v7_1 ↦{fullShare} f 1)
  | 2 => (ctl d main_v7_2 ↦{fullShare} f 2)
  | 3 => (ctl d main_v7_3 ↦{fullShare} f 3)

theorem out_eq (i : grid1.Coords) : A.out d i = outBuf d A.res i := funext fun
  | 0 => rfl
  | 1 => rfl
  | 2 => rfl
  | 3 => rfl

theorem chunk_done (i : grid1.Coords) (n : Fin 4) (k : Fin 8) :
    chunkRes d i (A.out d i) .done (n, k) = outPts d i n k (outBuf d A.res i n) := by
  rw [out_eq]; unfold chunkRes; rfl

theorem out_pts (f : Fin 4 → S43008x128.Idx → Elt F .f32) (n : Fin 4) :
    (bigSep Finset.univ fun x : Fin 2 × Fin 16 => bigSep Finset.univ fun k : Fin 8 =>
      outPts d (coordsV x.1 x.2) n k (outBuf d f (coordsV x.1 x.2) n) : sProp 𝕄)
    = outWhole d f n := by
  rw [← bigSep_univ_prod fun y : (Fin 2 × Fin 16) × Fin 8 => outPts d (coordsV y.1.1 y.1.2) n y.2 (outBuf d f (coordsV y.1.1 y.1.2) n)]
  match n with
  | 0 =>
    refine Eq.trans (bigSep_congr fun y _ => ?_) ((pointsTo_biUnion (ℓ := ctl d main_v7_0) (f := f 0) (q := fullShare) Finset.univ (fun y => (chunkR y).set) chunks_disjoint).symm.trans (by rw [chunks_cover]; rfl))
    unfold outPts; rw [show (outK (coordsV y.1.1 y.1.2) 0 y.2).view.set = (chunkR y).set from View.set_slice_whole _ _]; rfl
  | 1 =>
    refine Eq.trans (bigSep_congr fun y _ => ?_) ((pointsTo_biUnion (ℓ := ctl d main_v7_1) (f := f 1) (q := fullShare) Finset.univ (fun y => (chunkR y).set) chunks_disjoint).symm.trans (by rw [chunks_cover]; rfl))
    unfold outPts; rw [show (outK (coordsV y.1.1 y.1.2) 1 y.2).view.set = (chunkR y).set from View.set_slice_whole _ _]; rfl
  | 2 =>
    refine Eq.trans (bigSep_congr fun y _ => ?_) ((pointsTo_biUnion (ℓ := ctl d main_v7_2) (f := f 2) (q := fullShare) Finset.univ (fun y => (chunkR y).set) chunks_disjoint).symm.trans (by rw [chunks_cover]; rfl))
    unfold outPts; rw [show (outK (coordsV y.1.1 y.1.2) 2 y.2).view.set = (chunkR y).set from View.set_slice_whole _ _]; rfl
  | 3 =>
    refine Eq.trans (bigSep_congr fun y _ => ?_) ((pointsTo_biUnion (ℓ := ctl d main_v7_3) (f := f 3) (q := fullShare) Finset.univ (fun y => (chunkR y).set) chunks_disjoint).symm.trans (by rw [chunks_cover]; rfl))
    unfold outPts; rw [show (outK (coordsV y.1.1 y.1.2) 3 y.2).view.set = (chunkR y).set from View.set_slice_whole _ _]; rfl

/-- The tables and the lists. -/
def ins : sProp 𝕄 :=
  iprop((ctl d main_v1 ↦{fullShare} A.tabP) ∗ (ctl d main_v2 ↦{fullShare} A.tabK)
    ∗ (ctl d main_v3 ↦{fullShare} A.list 0) ∗ (ctl d main_v4 ↦{fullShare} A.list 1)
    ∗ (ctl d main_v5 ↦{fullShare} A.list 2) ∗ (ctl d main_v6 ↦{fullShare} A.list 3))

/-- Everything a stage's parts hold, array by array. -/
theorem parts_eq (p : Stage) (X : Fin 2 × Fin 16 → Fin 4 → Fin 8 → sProp 𝕄)
    (hX : ∀ x n k, chunkRes d (coordsV x.1 x.2) (A.out d (coordsV x.1 x.2)) p (n, k) = X x n k) :
    (bigSep Finset.univ fun x : Fin 2 × Fin 16 => part A d (coordsV x.1 x.2) p)
      = iprop((bigSep Finset.univ fun n => poolWhole A d n) ∗ (bigSep Finset.univ fun n => listWhole A d n)
          ∗ bigSep Finset.univ fun n : Fin 4 => bigSep Finset.univ fun x => bigSep Finset.univ fun k => X x n k) := by
  unfold part
  rw [bigSep_sep', bigSep_sep']
  congr 1
  · rw [show (fun n => poolWhole A d n) = _ from funext fun n => (pool_pts A d n).symm]
    exact (bigSep_congr fun x _ => bigSep_turn _).trans (bigSep_turn _)
  congr 1
  · rw [show (fun n => listWhole A d n) = _ from funext fun n => (list_pts A d n).symm, bigSep_turn]
  · refine Eq.trans (bigSep_congr fun x _ => ?_) (bigSep_turn fun x n => bigSep Finset.univ fun k => X x n k)
    rw [bigSep_univ_prod]
    exact bigSep_congr fun n _ => bigSep_congr fun k _ => hX x n k

theorem bigSep_four (Φ : Fin 4 → sProp 𝕄) : bigSep Finset.univ Φ = iprop(Φ 0 ∗ Φ 1 ∗ Φ 2 ∗ Φ 3) := by
  rw [bigSep_univ_succ, bigSep_univ_succ, bigSep_univ_two]; rfl

theorem ins_eq : ins A d ⊣⊢ iprop((bigSep Finset.univ fun n => poolWhole A d n) ∗ bigSep Finset.univ fun n => listWhole A d n) := by
  rw [bigSep_four, bigSep_four]
  unfold ins
  simp only [poolWhole, listWhole]
  have h1 := pointsTo_share (ℓ := ctl d main_v1) (I := Finset.univ) (f := A.tabP) (Name := ℕ) (Ix := HIx 1) (U := UU) (Lvl := ℕ) (Val := Elt F) (PosShare.mem_left_op_right fullShare)
  have h2 := pointsTo_share (ℓ := ctl d main_v2) (I := Finset.univ) (f := A.tabK) (Name := ℕ) (Ix := HIx 1) (U := UU) (Lvl := ℕ) (Val := Elt F) (PosShare.mem_left_op_right fullShare)
  constructor
  · iintro ⟨Ha, Hb, H0, H1, H2, H3⟩
    ihave Ha' := h1.1 $$ Ha
    ihave Hb' := h2.1 $$ Hb
    icases Ha' with ⟨Hl, Hr⟩
    icases Hb' with ⟨Hl', Hr'⟩
    isplitl [Hl Hr Hl' Hr']
    · isplitl [Hl]; · iexact Hl
      isplitl [Hr]; · iexact Hr
      isplitl [Hl']; · iexact Hl'
      iexact Hr'
    isplitl [H0]; · iexact H0
    isplitl [H1]; · iexact H1
    isplitl [H2]; · iexact H2
    iexact H3
  · iintro ⟨⟨Hl, Hr, Hl', Hr'⟩, H0, H1, H2, H3⟩
    isplitl [Hl Hr]
    · iapply h1.2
      isplitl [Hl]; · iexact Hl
      iexact Hr
    isplitl [Hl' Hr']
    · iapply h2.2
      isplitl [Hl']; · iexact Hl'
      iexact Hr'
    isplitl [H0]; · iexact H0
    isplitl [H1]; · iexact H1
    isplitl [H2]; · iexact H2
    iexact H3

theorem outs_eq (f : Fin 4 → S43008x128.Idx → Elt F .f32) :
    (bigSep Finset.univ fun n : Fin 4 => bigSep Finset.univ fun x : Fin 2 × Fin 16 => bigSep Finset.univ fun k : Fin 8 =>
      outPts d (coordsV x.1 x.2) n k (outBuf d f (coordsV x.1 x.2) n) : sProp 𝕄) = outs d f := by
  simp only [out_pts]
  rw [bigSep_four]; rfl

theorem cores_eq (p : Stage) (Ψ : Fin ((K (F := F)).nCore 0) → sProp 𝕄) (h : ∀ c, Ψ c = parts (fun _ => A) d (Fin.cast (nCore_eq 0) c) p) :
    bigSep Finset.univ Ψ = bigSep Finset.univ fun x : Fin 2 × Fin 16 => part A d (coordsV x.1 x.2) p := by
  rw [bigSep_univ_prod]
  exact bigSep_congr fun c _ => h c

end Arrays

/-- The call's arrays, whole, are what it is given; -/
theorem give (A : Dev nD → Ops F) (d : Dev nD) (f : Fin 4 → S43008x128.Idx → Elt F .f32) :
    iprop(ins (A d) d ∗ outs d f) ⊢ bigSep Finset.univ fun c : Fin ((K (F := F)).nCore 0) => (P A).st 0 d c := by
  rw [cores_eq (A d) d .todo (fun c => (P A).st 0 d c) (fun c => rfl), parts_eq (A d) d .todo _ (fun x n k => rfl), ← outs_eq]
  iintro ⟨Hi, Ho⟩
  ihave Hi' := (ins_eq (A d) d).1 $$ Hi
  icases Hi' with ⟨Hp, Hl⟩
  isplitl [Hp]; · iexact Hp
  isplitl [Hl]; · iexact Hl
  iapply (show (bigSep Finset.univ fun n : Fin 4 => bigSep Finset.univ fun x : Fin 2 × Fin 16 => bigSep Finset.univ fun k : Fin 8 =>
      outPts d (coordsV x.1 x.2) n k (outBuf d f (coordsV x.1 x.2) n) : sProp 𝕄)
    ⊢ bigSep Finset.univ fun n : Fin 4 => bigSep Finset.univ fun x : Fin 2 × Fin 16 => bigSep Finset.univ fun k : Fin 8 =>
      chunkRes d (coordsV x.1 x.2) ((A d).out d (coordsV x.1 x.2)) .todo (n, k) from
    bigSep_mono fun n _ => bigSep_mono fun x _ => bigSep_mono fun k _ =>
      BIClass.exists_intro (Φ := fun f => outPts d (coordsV x.1 x.2) n k f) (outBuf d f (coordsV x.1 x.2) n))
  iexact Ho

/-- and what it brings back is them, the outputs at the gathered rows. -/
theorem take (A : Dev nD → Ops F) (d : Dev nD) :
    (bigSep Finset.univ fun c : Fin ((K (F := F)).nCore 0) => (P A).dn 0 d c) ⊢ iprop(ins (A d) d ∗ outs d (A d).res) := by
  rw [cores_eq (A d) d .done (fun c => (P A).dn 0 d c) (fun c => rfl), parts_eq (A d) d .done
    (fun x n k => outPts d (coordsV x.1 x.2) n k (outBuf d (A d).res (coordsV x.1 x.2) n)) (fun x n k =>
      chunk_done (A d) d (coordsV x.1 x.2) n k), outs_eq]
  iintro ⟨Hp, Hl, Ho⟩
  isplitl [Hp Hl]
  · iapply (ins_eq (A d) d).2
    isplitl [Hp]; · iexact Hp
    iexact Hl
  iexact Ho

end Cert.Proof.Sc

end
-- ==== Proof.Launch.lean ====
/- The run of the whole program: its two TensorCore calls, its host operations and its SparseCore call. -/
module

public import Idealize.ShloMosaic.Lib.Pipeline.FrameBody
public import Idealize.ShloMosaic.Lib.Pipeline.RegionsLoop
public import Idealize.ShloMosaic.Lib.Pipeline.FrameSuffix
public import Idealize.ShloMosaic.Lib.Tactic
public import proofs.«01_k».proof.Proof.Segments
public import proofs.«01_k».proof.Proof.Split
public import Idealize.ShloMosaic.Lib.SparseCore.Quiescent

@[expose] public section

noncomputable section

namespace Cert.Proof.Sc

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig (HIx 1) (Elt F) ℕ UU ℕ

variable (m : (ℓ : Loc nD τ sig) → Buf (Elt F) ℓ)

variable (ρ : Dev nD → PrngReg)

local notation "Wp" => wp (M := 𝕄) frame

/-- The buffers the TensorCore holds all along. -/
abbrev ucs : Finset (DevRef τ sig) := Pipeline.ucRefs τ sig

/-! ## The program as its five steps -/

/-- A TensorCore call as the program prints it. -/
abbrev tcCall (p : Fin 2) : Prog (TpuEff nD τ sig (Elt F) (SparseCore.Sig (ΛP (F := F)) 1) .tc) PUnit :=
  SparseCore.liftProg (.op (.customCall (Pipeline.entry p) ()) .ret)

set_option maxRecDepth 16384 in
theorem main_steps (d : Dev nD) : main (F := F) d
    = tcCall 0 >>= fun _ => StableHlo.seq flat >>= fun _ => (K (F := F)).run d 0 >>= fun _ => tcCall 1 >>= fun _ =>
        StableHlo.seq close >>= fun _ => .ret ⟨⟩ := rfl

/-! ## A TensorCore call -/

theorem wp_call [∀ e, Nonempty (Elt F e)] {p : Fin 2} (R : Pipeline.RegionSeg (pcfgs (F := F)) adm (pdats m) none defs₀ 𝒱₀ (K (F := F)).L (K (F := F)).lev p)
    (d : Dev nD) (k : PUnit → Prog (TpuEff nD τ sig (Elt F) (SparseCore.Sig (ΛP (F := F)) 1) .tc) PUnit) (Q : PUnit.{1} → sProp 𝕄) :
    iprop((iprop(boundary (d.tc : Thread nD τ) ∗ R.post d)
          -∗ wp frame (wpE ((K (F := F)).defs (D (F := F))) 𝒱 (SparseCore.T d) none) Set.univ (k ⟨⟩) Q)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ (tcCall p >>= k) Q := by
  rw [wp_bind]
  iintro ⟨Hk, H⟩
  iapply ((K (F := F)).wp_liftProg (D (F := F)) 𝒱 (SparseCore.T d) Set.univ none _ _)
  iapply (Pipeline.RegionSeg.wp (pcfgs (F := F)) adm (pdats m) none cellOf_inj EP defs₀ 𝒱₀ (K (F := F)).L (K (F := F)).lev
    R d none (fun u hu => nomatch hu) _ _)
  isplitl [Hk]
  · iintro HR
    rw [wp_ret]; imodintro
    iapply Hk; iexact HR
  iexact H

/-! ## The gather -/

/-- The buffers the gather reads or writes. -/
abbrev scRefs : Finset (DevRef τ sig) :=
  {Proc.devRef .tc main_v1, Proc.devRef .tc main_v2, Proc.devRef .tc main_v3, Proc.devRef .tc main_v4, Proc.devRef .tc main_v5, Proc.devRef .tc main_v6,
    Proc.devRef .tc main_v7_0, Proc.devRef .tc main_v7_1, Proc.devRef .tc main_v7_2, Proc.devRef .tc main_v7_3}

theorem mem_uc (b : Ref sig .tc) (h : ¬ b.isScoped) : (Proc.devRef .tc b : DevRef τ sig) ∈ ucs :=
  Finset.mem_filter.mpr ⟨StableHlo.devRef_mem_tcRefs b, by simpa using h⟩

theorem scRefs_sub : scRefs ⊆ ucs := by
  intro b hb
  simp only [scRefs, Finset.mem_insert, Finset.mem_singleton] at hb
  rcases hb with rfl | rfl | rfl | rfl | rfl | rfl | rfl | rfl | rfl | rfl <;> exact mem_uc _ (by decide)

/-- What `W` holds in the gather's results. -/
def resultsOf (W : Valuation τ sig (Elt F)) : Fin 4 → S43008x128.Idx → Elt F .f32
  | 0 => W (Proc.devRef .tc main_v7_0) | 1 => W (Proc.devRef .tc main_v7_1) | 2 => W (Proc.devRef .tc main_v7_2) | 3 => W (Proc.devRef .tc main_v7_3)

theorem held_sc (d : Dev nD) (W : Valuation τ sig (Elt F)) (A : Ops F) (hP : W (Proc.devRef .tc main_v1) = A.tabP)
    (hK : W (Proc.devRef .tc main_v2) = A.tabK) (h0 : W (Proc.devRef .tc main_v3) = A.list 0) (h1 : W (Proc.devRef .tc main_v4) = A.list 1)
    (h2 : W (Proc.devRef .tc main_v5) = A.list 2) (h3 : W (Proc.devRef .tc main_v6) = A.list 3) :
    (StableHlo.held (d : Thread nD τ) scRefs W : sProp 𝕄) ⊣⊢ iprop(ins A d ∗ outs d (resultsOf W)) := by
  unfold StableHlo.held scRefs ins outs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton,
    hP, hK, h0, h1, h2, h3]
  constructor
  · iintro ⟨H1, H2, H3, H4, H5, H6, H⟩
    isplitr [H]
    · isplitl [H1]; · iexact H1
      isplitl [H2]; · iexact H2
      isplitl [H3]; · iexact H3
      isplitl [H4]; · iexact H4
      isplitl [H5]; · iexact H5
      iexact H6
    iexact H
  · iintro ⟨⟨H1, H2, H3, H4, H5, H6⟩, H⟩
    isplitl [H1]; · iexact H1
    isplitl [H2]; · iexact H2
    isplitl [H3]; · iexact H3
    isplitl [H4]; · iexact H4
    isplitl [H5]; · iexact H5
    isplitl [H6]; · iexact H6
    iexact H

theorem gathered_of (c : Dev nD) (W : Valuation τ sig (Elt F)) (f : Fin 4 → S43008x128.Idx → Elt F .f32) (b : DevRef τ sig)
    (h0 : b ≠ Proc.devRef .tc main_v7_0) (h1 : b ≠ Proc.devRef .tc main_v7_1) (h2 : b ≠ Proc.devRef .tc main_v7_2) (h3 : b ≠ Proc.devRef .tc main_v7_3) :
    gathered c W f b = W b := by
  unfold gathered
  rw [Function.update_of_ne h3, Function.update_of_ne h2, Function.update_of_ne h1, Function.update_of_ne h0]

theorem resultsOf_gathered (c : Dev nD) (W : Valuation τ sig (Elt F)) (f : Fin 4 → S43008x128.Idx → Elt F .f32) : resultsOf (gathered c W f) = f := by
  have h01 : (Proc.devRef .tc main_v7_0 : DevRef τ sig) ≠ Proc.devRef .tc main_v7_1 := by decide
  have h02 : (Proc.devRef .tc main_v7_0 : DevRef τ sig) ≠ Proc.devRef .tc main_v7_2 := by decide
  have h03 : (Proc.devRef .tc main_v7_0 : DevRef τ sig) ≠ Proc.devRef .tc main_v7_3 := by decide
  have h12 : (Proc.devRef .tc main_v7_1 : DevRef τ sig) ≠ Proc.devRef .tc main_v7_2 := by decide
  have h13 : (Proc.devRef .tc main_v7_1 : DevRef τ sig) ≠ Proc.devRef .tc main_v7_3 := by decide
  have h23 : (Proc.devRef .tc main_v7_2 : DevRef τ sig) ≠ Proc.devRef .tc main_v7_3 := by decide
  have e0 : gathered c W f (Proc.devRef .tc main_v7_0) = f 0 :=
    (Function.update_of_ne h03 _ _).trans ((Function.update_of_ne h02 _ _).trans ((Function.update_of_ne h01 _ _).trans (Function.update_self _ _ _)))
  have e1 : gathered c W f (Proc.devRef .tc main_v7_1) = f 1 :=
    (Function.update_of_ne h13 _ _).trans ((Function.update_of_ne h12 _ _).trans (Function.update_self _ _ _))
  have e2 : gathered c W f (Proc.devRef .tc main_v7_2) = f 2 := (Function.update_of_ne h23 _ _).trans (Function.update_self _ _ _)
  have e3 : gathered c W f (Proc.devRef .tc main_v7_3) = f 3 := Function.update_self _ _ _
  funext n
  match n with
  | 0 => exact e0
  | 1 => exact e1
  | 2 => exact e2
  | 3 => exact e3

/-- Before the gather: its operands and results out of the buffers held, -/
theorem held_before (d : Dev nD) : (StableHlo.held (d : Thread nD τ) ucs (W2 m d) : sProp 𝕄)
    ⊢ iprop((ins (operands m d) d ∗ outs d (resultsOf (W2 m d))) ∗ StableHlo.held (d : Thread nD τ) (ucs \ scRefs) (W2 m d)) := by
  rw [StableHlo.held_sub_split (d : Thread nD τ) scRefs_sub]
  exact BI.sep_mono (held_sc d (W2 m d) (operands m d) rfl rfl rfl rfl rfl rfl).1 (BI.Entails.refl _)

set_option maxHeartbeats 1000000 in
/-- and after it put back. -/
theorem held_after (d : Dev nD) :
    iprop((ins (operands m d) d ∗ outs d (operands m d).res) ∗ StableHlo.held (d : Thread nD τ) (ucs \ scRefs) (W2 m d))
      ⊢ (StableHlo.held (d : Thread nD τ) ucs (W3 m d) : sProp 𝕄) := by
  rw [StableHlo.held_sub_split (d : Thread nD τ) scRefs_sub]
  refine BI.sep_mono ?_ (Entails.of_eq (StableHlo.held_congr (d : Thread nD τ) fun b hb => ?_))
  · have hk (b : Ref sig .tc) (h : b ∉ [main_v7_0, main_v7_1, main_v7_2, main_v7_3]) :
        W3 m d (Proc.devRef .tc b) = W2 m d (Proc.devRef .tc b) := by
      simp only [List.mem_cons, List.not_mem_nil, or_false, not_or] at h
      exact gathered_of d _ _ _ (fun e => h.1 (Proc.devRef_injective _ e)) (fun e => h.2.1 (Proc.devRef_injective _ e))
        (fun e => h.2.2.1 (Proc.devRef_injective _ e)) (fun e => h.2.2.2 (Proc.devRef_injective _ e))
    have e1 : W3 m d (Proc.devRef .tc main_v1) = (operands m d).tabP := hk main_v1 (by decide)
    have e2 : W3 m d (Proc.devRef .tc main_v2) = (operands m d).tabK := hk main_v2 (by decide)
    have e3 : W3 m d (Proc.devRef .tc main_v3) = (operands m d).list 0 := hk main_v3 (by decide)
    have e4 : W3 m d (Proc.devRef .tc main_v4) = (operands m d).list 1 := hk main_v4 (by decide)
    have e5 : W3 m d (Proc.devRef .tc main_v5) = (operands m d).list 2 := hk main_v5 (by decide)
    have e6 : W3 m d (Proc.devRef .tc main_v6) = (operands m d).list 3 := hk main_v6 (by decide)
    have hr : resultsOf (W3 m d) = (operands m d).res := resultsOf_gathered d _ _
    rw [← hr]
    exact (held_sc d (W3 m d) (operands m d) e1 e2 e3 e4 e5 e6).2
  · have hn (r : Ref sig .tc) (hr : (Proc.devRef .tc r : DevRef τ sig) ∈ scRefs) : b ≠ Proc.devRef .tc r := fun e => (Finset.mem_sdiff.mp hb).2 (e ▸ hr)
    exact (gathered_of d _ _ b (hn main_v7_0 (by decide)) (hn main_v7_1 (by decide)) (hn main_v7_2 (by decide)) (hn main_v7_3 (by decide))).symm

/-! ## What the TensorCore owes, out of its state between calls -/

/-- The rest of the TensorCore's state before call `n`. -/
def tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some ((SparseCore.Cfg.Blocks.last q : Fin 1))) 1)))

theorem tcSt_eq (d : Dev nD) (n : ℕ) : ((K (F := F)).tcSt (EH (F := F)) d n : sProp 𝕄)
    = iprop(Pipeline.owesWithin d ((K (F := F)).Otc d n) (seen (F := F) d (8 * n)) ∗ tcRest d n) := rfl

/-! ## The launch element -/

/-- The ghost state that the launch begins with. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What the launch gives each TensorCore for its two calls. -/
def ghost (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem bigSep_emp' {I : Type} (s : Finset I) : (bigSep s fun _ => iprop(emp)) = (iprop(emp) : sProp 𝕄) := bigSep_emp_const s
theorem bigSep_pair (Φ : Fin 2 → sProp 𝕄) : bigSep Finset.univ Φ = iprop(Φ 0 ∗ Φ 1) := BI.bigSep_fin_two Φ

theorem own_pair' (a : UP) (b : Counters) : (BI.own (embR (a, b)) : sProp 𝕄) ⊢ iprop(BI.own (EP a) ∗ BI.own (((Emb.inr : Emb Counters (UP × Counters)).trans embR) b)) :=
  own_pair_emb embR a b

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P (operands m)).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HR⟩
  ihave H := (own_pair' (initOf (Pipeline.cells (nD := nD) (τ := τ) cfgs cellOf_inj) (Pipeline.launchToks (nD := nD) (τ := τ) cfgs cellOf_inj)) (1 : Counters)) $$ HR
  icases H with ⟨HP, -⟩
  imod (Pipeline.fund_ghost (cfgs) EP cellOf_inj) $$ HP with ⟨Hc, Ht⟩
  imodintro
  isplitl [HH]; · iexact HH
  isplitl [Hc Ht]
  · unfold ghost; rw [bigSep_sep']
    isplitl [Hc] <;> iassumption
  rw [show (bigSep Finset.univ fun thr : Thread nD τ => bigSep Finset.univ fun q : Fin 1 => (P (operands m)).x q thr) = bigSep Finset.univ fun _ => iprop(emp) from
    bigSep_congr fun _ _ => bigSep_univ_of_subsingleton (0 : Fin 1), bigSep_emp']
  iempintro

/-! ## The program on a TensorCore -/

/-- What the program leaves: every buffer of the TensorCore's at its last contents. -/
abbrev FIN (d : Dev nD) : sProp 𝕄 := StableHlo.held (d : Thread nD τ) ucs (W5 m d)

theorem flat_sub : ∀ op ∈ flat (F := F), op.bufs ⊆ ucs := by
  intro op h
  refine Pipeline.sub_ucRefs op ?_
  simp only [flat, List.mem_cons, List.not_mem_nil, or_false] at h
  rcases h with rfl | rfl | rfl | rfl | rfl | rfl <;> first | exact StableHlo.reshape_bufs_sub .. | exact StableHlo.unary_bufs_sub ..
theorem flat_fresh : ∀ op ∈ flat (F := F), op.fresh = ∅ := by
  intro op h
  simp only [flat, List.mem_cons, List.not_mem_nil, or_false] at h
  rcases h with rfl | rfl | rfl | rfl | rfl | rfl <;> rfl
theorem close_sub : ∀ op ∈ close (F := F), op.bufs ⊆ ucs := by
  intro op h
  refine Pipeline.sub_ucRefs op ?_
  simp only [close, List.mem_cons, List.not_mem_nil, or_false] at h
  rcases h with rfl | rfl | rfl | rfl | rfl | rfl | rfl | rfl | rfl | rfl | rfl | rfl | rfl | rfl <;> first | exact StableHlo.reshape_bufs_sub .. | exact StableHlo.unary_bufs_sub ..
theorem close_fresh : ∀ op ∈ close (F := F), op.fresh = ∅ := by
  intro op h
  simp only [close, List.mem_cons, List.not_mem_nil, or_false] at h
  rcases h with rfl | rfl | rfl | rfl | rfl | rfl | rfl | rfl | rfl | rfl | rfl | rfl | rfl | rfl <;> rfl

set_option backward.isDefEq.respectTransparency.types false in
theorem hmain [∀ e, Nonempty (Elt F e)] (κ : GSem nD τ sig → ℕ) (d : Dev nD) :
    iprop((K (F := F)).ctx EH (P (operands m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd ghost
  rw [main_steps, show (unscopedBufs d (fun b => m ((SparseCore.T d).loc b)) : sProp 𝕄) = StableHlo.held (d : Thread nD τ) ucs (W0 m d) from
      Pipeline.unscopedBufs_held d (W0 m d), tcSt_eq, tcSt_eq,
    bigSep_pair, bigSep_pair]
  iintro ⟨#Hctx, ⟨HO, Hst⟩, ⟨Hb, Hh, Hts, Hp⟩, ⟨Hc0, Hc1⟩, Ht0, Ht1⟩
  ihave #Hlev := ((K (F := F)).ctx_levAts (EH := EH) (P := P (operands m)) κ) $$ Hctx
  iapply (wp_call m (reg0 m) d _ _)
  isplitr [Hb Hh HO Hp Hc0 Ht0]
  swap
  · isplitl [Hb]; · iexact Hb
    isplitl [Hh HO Hp]
    · iapply (show iprop(StableHlo.held (d : Thread nD τ) ucs (W0 m d) ∗ beside d 0 0) ⊢ (reg0 m).pre d from BI.Entails.refl _)
      isplitl [Hh]; · iexact Hh
      isplitl [Hp]; · iexists (ρ d); iexact Hp
      iexact HO
    isplitr; · iexact Hlev
    isplitl [Hc0] <;> iassumption
  iintro ⟨Hb, Hpost⟩
  ihave Hpost' := (show (reg0 m).post d ⊢ iprop(StableHlo.held (d : Thread nD τ) ucs (W1 m d) ∗ beside d 0 0) from BI.Entails.refl _) $$ Hpost
  icases Hpost' with ⟨Hh, Hp, HO⟩
  iapply (StableHlo.wp_seq 𝒱 none Set.univ d ucs _ flat flat_sub flat_fresh (W1 m d)) $$ [Hb Hh]
  · isplitl [Hb] <;> iassumption
  iintro ⟨Hb, Hh⟩
  ihave Hh' := (show StableHlo.held (d : Thread nD τ) ucs (StableHlo.after flat (W1 m d)) ⊢ _ from held_before m d) $$ Hh
  icases Hh' with ⟨Hio, Hrest⟩
  rw [wp_bind]
  iapply ((K (F := F)).wp_run (D (F := F)) 𝒱 (EH := EH) (P := P (operands m)) κ d 0) $$ [Hst HO Hio Hrest Hb Hts Hp Hc1 Ht1]
  isplitr; · iexact Hctx
  isplitl [Hst HO]
  · iapply (Entails.of_eq (tcSt_eq (F := F) d 0).symm)
    isplitl [HO] <;> iassumption
  isplitl [Hio]
  · iapply (give (operands m) d (resultsOf (W2 m d))); iexact Hio
  iintro ⟨Hst, Hdn⟩
  ihave Hio := (take (operands m) d) $$ Hdn
  ihave Hst' := (show (K (F := F)).tcSt (EH (F := F)) d ((0 : Fin 1).val + 1) ⊢ _ from Entails.of_eq (tcSt_eq (F := F) d 1)) $$ Hst
  icases Hst' with ⟨HO, Hst⟩
  ihave Hh := (held_after m d) $$ [Hio Hrest]
  · isplitl [Hio] <;> iassumption
  iapply (wp_call m (reg1 m) d _ _)
  isplitr [Hb Hh HO Hp Hc1 Ht1]
  swap
  · isplitl [Hb]; · iexact Hb
    isplitl [Hh HO Hp]
    · iapply (show iprop(StableHlo.held (d : Thread nD τ) ucs (W3 m d) ∗ beside d 1 8) ⊢ (reg1 m).pre d from BI.Entails.refl _)
      isplitl [Hh]; · iexact Hh
      isplitl [Hp]; · iexact Hp
      iexact HO
    isplitr; · iexact Hlev
    isplitl [Hc1] <;> iassumption
  iintro ⟨Hb, Hpost⟩
  ihave Hpost' := (show (reg1 m).post d ⊢ iprop(StableHlo.held (d : Thread nD τ) ucs (W4 m d) ∗ beside d 1 8) from BI.Entails.refl _) $$ Hpost
  icases Hpost' with ⟨Hh, Hp, HO⟩
  iapply (StableHlo.wp_seq 𝒱 none Set.univ d ucs _ close close_sub close_fresh (W4 m d)) $$ [Hb Hh]
  · isplitl [Hb] <;> iassumption
  iintro ⟨Hb, Hh⟩
  rw [wp_ret]; imodintro
  isplitl [HO Hst]; · isplitl [HO] <;> iassumption
  isplitl [Hh]; · iexact Hh
  isplitl [Hb] <;> iassumption

/-! ## The run -/

/-- What the run's end says of a device: every buffer holds its final contents. -/
def fq (d : Dev nD) (s' : Phys nD τ sig (Elt F)) : Prop := ∀ b ∈ ucs, s'.mem.mem (d, b) = W5 m d b

theorem hfin (d : Dev nD) (s' : Phys nD τ sig (Elt F)) : iprop(FIN m d ∗ SI s') ⊢ (⌜fq m d s'⌝ : sProp 𝕄) :=
  (pointsTo_read_all ucs (fun b => (d, b)) (W5 m d) s').trans sep_elim_left

/-- The run leaves every buffer of a TensorCore's at its last contents and every counter at zero. -/
theorem run_main [∀ e, Nonempty (Elt F e)] (h : ∀ d, (operands m d).InRange) :
    θ_run (Cert.KernelIdeal.defs (F := F)) (Cert.KernelIdeal.threads (F := F)) ⟨m, fun _ => 0, ρ⟩
      fun r => (∀ d : Dev nD, ∀ b ∈ ucs, r.2.mem (d, b) = W5 m d b) ∧ r.2.sem = fun _ => 0 :=
  SparseCore.Cfg.θ_run_sc_quiescent (K := K (F := F)) (D := D (F := F)) (𝒱 := 𝒱) (EH := EH) (P := P (operands m)) (A := ∅) facts v₀
    (fun q hq => match q with | 0 => nomatch hq)
    (fun q _ => match q with | 0 => tileObl (operands m) h)
    (fun q _ => match q with | 0 => SparseCore.Cfg.VecSplit.of_plain (vecSplit (operands m)))
    m ρ main ghost (FIN m) (u₀ (F := F)) (sep_elim_left.trans (hu₀ m)) (hmain m ρ) (fq m) (hfin m) _ (fun _ h hz => ⟨h, hz⟩)

end Cert.Proof.Sc

end
-- ==== Proof.Written.lean ====
/- What the two TensorCore calls leave in the arrays that they write, and what the operations around them pass on. -/
module

public import Idealize.ShloMosaic.Lib.Pipeline.ValueKit
public import Idealize.ShloMosaic.Lib.StableHlo.RunRead
public import proofs.«01_k».proof.Proof.Contents

@[expose] public section

set_option maxRecDepth 16384

noncomputable section

namespace Cert.Proof.Sc

open Cert.KernelIdeal Cert.KernelIdeal.Gen
open Idealize.ShloMosaic Idealize.ShloMosaic.TcCoe
open Idealize.ShloMosaic.SparseCore.Cfg (HIx)
open Idealize.SL Idealize.SL.RA
open Idealize.ShloMosaic.Pipeline (Dat Cfg Window)

variable {F : FTy → Type} [FloatOps F]
variable (m : (ℓ : Loc nD τ sig) → Buf (Elt F) ℓ)

/-- The selection's operands are the whole arrays. -/
theorem iblk0_0 (c : Dev nD) (t : Fin cfg0.N) : iblk0 (V0 m) c 0 t = m (c.tc.loc main_arg0) := by
  obtain rfl := fin_N0 t
  funext y
  refine congrArg (m (c.tc.loc main_arg0)) (funext fun a => Fin.ext ?_)
  blk_simp
  fin_cases a <;> simp <;> rfl
theorem iblk0_1 (c : Dev nD) (t : Fin cfg0.N) : iblk0 (V0 m) c 1 t = m (c.tc.loc main_arg4) := by
  obtain rfl := fin_N0 t
  funext y
  refine congrArg (m (c.tc.loc main_arg4)) (funext fun a => Fin.ext ?_)
  blk_simp
  fin_cases a <;> simp <;> rfl
theorem iblk0_2 (c : Dev nD) (t : Fin cfg0.N) : iblk0 (V0 m) c 2 t = m (c.tc.loc main_arg6) := by
  obtain rfl := fin_N0 t
  funext y
  refine congrArg (m (c.tc.loc main_arg6)) (funext fun a => Fin.ext ?_)
  blk_simp
  fin_cases a <;> simp <;> rfl

/-! ## What the selection leaves: the four lists and the loss's block -/

theorem W1_v0_0 (c : Dev nD) : W1 m c (Proc.devRef .tc main_v0_0)
    = out0_3 (m (c.tc.loc main_arg0)) (m (c.tc.loc main_arg4)) (m (c.tc.loc main_arg6)) := by
  refine (W1_arr m c 3).trans ?_
  refine (dat0 (V0 m) c).arrAt_eq_of_after_last 3 t0_0 (by decide +kernel) _ fun j => ?_
  blk_simp
  rw [after0_3, iblk0_0, iblk0_1, iblk0_2]
theorem W1_v0_1 (c : Dev nD) : W1 m c (Proc.devRef .tc main_v0_1)
    = out0_4 (m (c.tc.loc main_arg0)) (m (c.tc.loc main_arg4)) (m (c.tc.loc main_arg6)) := by
  refine (W1_arr m c 4).trans ?_
  refine (dat0 (V0 m) c).arrAt_eq_of_after_last 4 t0_0 (by decide +kernel) _ fun j => ?_
  blk_simp
  rw [after0_4, iblk0_0, iblk0_1, iblk0_2]
theorem W1_v0_2 (c : Dev nD) : W1 m c (Proc.devRef .tc main_v0_2)
    = out0_5 (m (c.tc.loc main_arg0)) (m (c.tc.loc main_arg4)) (m (c.tc.loc main_arg6)) := by
  refine (W1_arr m c 5).trans ?_
  refine (dat0 (V0 m) c).arrAt_eq_of_after_last 5 t0_0 (by decide +kernel) _ fun j => ?_
  blk_simp
  rw [after0_5, iblk0_0, iblk0_1, iblk0_2]
theorem W1_v0_3 (c : Dev nD) : W1 m c (Proc.devRef .tc main_v0_3)
    = out0_6 (m (c.tc.loc main_arg0)) (m (c.tc.loc main_arg4)) (m (c.tc.loc main_arg6)) := by
  refine (W1_arr m c 6).trans ?_
  refine (dat0 (V0 m) c).arrAt_eq_of_after_last 6 t0_0 (by decide +kernel) _ fun j => ?_
  blk_simp
  rw [after0_6, iblk0_0, iblk0_1, iblk0_2]
theorem W1_v0_4 (c : Dev nD) : W1 m c (Proc.devRef .tc main_v0_4)
    = out0_7 (m (c.tc.loc main_arg0)) (m (c.tc.loc main_arg4)) (m (c.tc.loc main_arg6)) := by
  refine (W1_arr m c 7).trans ?_
  refine (dat0 (V0 m) c).arrAt_eq_of_after_last 7 t0_0 (by decide +kernel) _ fun j => ?_
  blk_simp
  rw [after0_7, iblk0_0, iblk0_1, iblk0_2]

/-! ## What the gather reads -/

theorem flat_writes : (flat (F := F)).map HloOp.writes = [main_v1, main_v2, main_v3, main_v4, main_v5, main_v6].map fun w => {Proc.devRef (τ := τ) .tc w} := rfl

/-- A buffer that neither the selection nor the reshapes write is as it was. -/
theorem W2_of (c : Dev nD) (r : Ref sig .tc) (hr : r ∉ [main_v1, main_v2, main_v3, main_v4, main_v5, main_v6])
    (h : ∀ w : Fin cfg0.W, Pipeline.arrRef spec0 w = r → (cfg0.win w).isOut = false) :
    W2 m c (Proc.devRef .tc r) = m (c, Proc.devRef .tc r) :=
  (StableHlo.after_unwritten [main_v1, main_v2, main_v3, main_v4, main_v5, main_v6] flat_writes hr _).trans (W1_of m c r h)

theorem tabP_eq (c : Dev nD) : (operands m c).tabP = shapeCast S4320x128 (m (c.tc.loc main_arg3)) shapeCasts_S36x20x768_S4320x128 := by
  show W2 m c (Proc.devRef .tc main_v1) = _
  rw [← show W1 m c (Proc.devRef .tc main_arg3) = m (c.tc.loc main_arg3) from W1_of m c main_arg3 (by decide)]
  rfl
theorem tabK_eq (c : Dev nD) : (operands m c).tabK = shapeCast S4320x128 (m (c.tc.loc main_arg5)) shapeCasts_S36x20x768_S4320x128 := by
  show W2 m c (Proc.devRef .tc main_v2) = _
  rw [← show W1 m c (Proc.devRef .tc main_arg5) = m (c.tc.loc main_arg5) from W1_of m c main_arg5 (by decide)]
  rfl

/-- The four lists are the selection's, flat. -/
theorem lists_eq (c : Dev nD) :
    (operands m c).list 0 = shapeCast S43008 (out0_3 (m (c.tc.loc main_arg0)) (m (c.tc.loc main_arg4)) (m (c.tc.loc main_arg6))) shapeCasts_S128x336_S43008
    ∧ (operands m c).list 1 = shapeCast S43008 (out0_4 (m (c.tc.loc main_arg0)) (m (c.tc.loc main_arg4)) (m (c.tc.loc main_arg6))) shapeCasts_S128x336_S43008
    ∧ (operands m c).list 2 = shapeCast S43008 (out0_5 (m (c.tc.loc main_arg0)) (m (c.tc.loc main_arg4)) (m (c.tc.loc main_arg6))) shapeCasts_S128x336_S43008
    ∧ (operands m c).list 3 = shapeCast S43008 (out0_6 (m (c.tc.loc main_arg0)) (m (c.tc.loc main_arg4)) (m (c.tc.loc main_arg6))) shapeCasts_S128x336_S43008 := by
  rw [← W1_v0_0, ← W1_v0_1, ← W1_v0_2, ← W1_v0_3]
  exact ⟨rfl, rfl, rfl, rfl⟩

/-! ## What the last call leaves -/

/-- Row `r`, column `l` of the gathered rows. -/
def gotIx (r : Fin 43008) (l : Fin 128) : S43008x128.Idx := fun | 0 => r | 1 => l

/-- The gathered rows of all the queries, laid out as `relay` lays a grid step's. -/
def laid {α : Type} (x : S43008x128.Idx → α) : S128x50x768.Idx → α := fun i =>
  have h0 : (i 0).val < 128 := (i 0).isLt
  have h1 : (i 1).val < 50 := (i 1).isLt
  have h2 : (i 2).val < 768 := (i 2).isLt
  x (gotIx ⟨336 * (i 0).val + 56 * ((i 2).val / 128) + (i 1).val, by omega⟩ ⟨(i 2).val % 128, by omega⟩)

/-- The gather's results, as the last call finds them. -/
theorem W3_got (c : Dev nD) : W3 m c (Proc.devRef .tc main_v7_0) = (operands m c).res 0 ∧ W3 m c (Proc.devRef .tc main_v7_1) = (operands m c).res 1
    ∧ W3 m c (Proc.devRef .tc main_v7_2) = (operands m c).res 2 ∧ W3 m c (Proc.devRef .tc main_v7_3) = (operands m c).res 3 := by
  unfold W3 gathered
  refine ⟨?_, ?_, ?_, ?_⟩
  · rw [Function.update_of_ne (by decide), Function.update_of_ne (by decide), Function.update_of_ne (by decide), Function.update_self]
  · rw [Function.update_of_ne (by decide), Function.update_of_ne (by decide), Function.update_self]
  · rw [Function.update_of_ne (by decide), Function.update_self]
  · rw [Function.update_self]
theorem W3_of (c : Dev nD) (r : Ref sig .tc) (hr : r ∉ [main_v7_0, main_v7_1, main_v7_2, main_v7_3]) :
    W3 m c (Proc.devRef .tc r) = W2 m c (Proc.devRef .tc r) := by
  unfold W3 gathered
  have hn : ∀ q ∈ [main_v7_0, main_v7_1, main_v7_2, main_v7_3], Proc.devRef (τ := τ) .tc r ≠ Proc.devRef .tc q := fun q hq e =>
    hr ((Proc.devRef_injective _ e) ▸ hq)
  rw [Function.update_of_ne (hn _ (by decide)), Function.update_of_ne (hn _ (by decide)), Function.update_of_ne (hn _ (by decide)),
    Function.update_of_ne (hn _ (by decide))]

/-- The block of grid step `n` laid out is that step's block of the whole layout: `w` places a row of the step's gathered rows
    among all of them, `v` a place of its block in the result. -/
theorem lays {α : Type} (x : S43008x128.Idx → α) (w : S2688x128.Idx → S43008x128.Idx) (v : S8x50x768.Idx → S128x50x768.Idx) (n : ℕ)
    (w0 : ∀ z, (w z 0).val = n * 2688 + (z 0).val) (w1 : ∀ z, (w z 1).val = (z 1).val)
    (v0 : ∀ z, (v z 0).val = n * 8 + (z 0).val) (v1 : ∀ z, (v z 1).val = (z 1).val) (v2 : ∀ z, (v z 2).val = (z 2).val)
    (y : S8x50x768.Idx) : relay (fun z => x (w z)) y = laid x (v y) := by
  refine congrArg x (funext fun a => Fin.ext ?_)
  match a with
  | ⟨0, _⟩ =>
    refine (w0 _).trans ?_
    show n * 2688 + (336 * (y 0).val + 56 * ((y 2).val / 128) + (y 1).val) = 336 * (v y 0).val + 56 * ((v y 2).val / 128) + (v y 1).val
    rw [v0, v1, v2]
    omega
  | ⟨1, _⟩ =>
    refine (w1 _).trans ?_
    show (y 2).val % 128 = (v y 2).val % 128
    rw [v2]

/-! Where the blocks of a grid step stand: the gathered rows in steps of 2688, the results in steps of eight queries. -/

theorem in0 : ∀ t : Fin cfg2.N, win2_0.index t 0 = t.val ∧ win2_0.index t 1 = 0 := by decide +kernel
theorem out0 : ∀ t : Fin cfg2.N, win2_4.index t 0 = t.val ∧ win2_4.index t 1 = 0 ∧ win2_4.index t 2 = 0 := by decide +kernel
theorem in1 : ∀ t : Fin cfg2.N, win2_1.index t 0 = t.val ∧ win2_1.index t 1 = 0 := by decide +kernel
theorem out1 : ∀ t : Fin cfg2.N, win2_5.index t 0 = t.val ∧ win2_5.index t 1 = 0 ∧ win2_5.index t 2 = 0 := by decide +kernel
theorem in2 : ∀ t : Fin cfg2.N, win2_2.index t 0 = t.val ∧ win2_2.index t 1 = 0 := by decide +kernel
theorem out2 : ∀ t : Fin cfg2.N, win2_6.index t 0 = t.val ∧ win2_6.index t 1 = 0 ∧ win2_6.index t 2 = 0 := by decide +kernel
theorem in3 : ∀ t : Fin cfg2.N, win2_3.index t 0 = t.val ∧ win2_3.index t 1 = 0 := by decide +kernel
theorem out3 : ∀ t : Fin cfg2.N, win2_7.index t 0 = t.val ∧ win2_7.index t 1 = 0 ∧ win2_7.index t 2 = 0 := by decide +kernel

theorem W4_v8_0 (c : Dev nD) : W4 m c (Proc.devRef .tc main_v8_0) = laid ((operands m c).res 0) := by
  refine (W4_arr m c 4).trans ?_
  rw [← (W3_got m c).1]
  refine (dat2 (V3 m) c).arrAt_eq_of_covers 4 _ (by decide +kernel) fun t hf y => ?_
  blk_simp
  rw [after2_4]
  exact lays (α := Elt F .f32) (W3 m c (Proc.devRef .tc main_v7_0)) (win2_0.blk t).view.emb (win2_4.blk t).view.emb t.val (fun z => by blk_simp; rw [(in0 t).1]) (fun z => by blk_simp; rw [(in0 t).2]; omega)
    (fun z => by blk_simp; rw [(out0 t).1]) (fun z => by blk_simp; rw [(out0 t).2.1]; omega) (fun z => by blk_simp; rw [(out0 t).2.2]; omega) y

theorem W4_v8_1 (c : Dev nD) : W4 m c (Proc.devRef .tc main_v8_1) = laid ((operands m c).res 1) := by
  refine (W4_arr m c 5).trans ?_
  rw [← (W3_got m c).2.1]
  refine (dat2 (V3 m) c).arrAt_eq_of_covers 5 _ (by decide +kernel) fun t hf y => ?_
  blk_simp
  rw [after2_5]
  exact lays (α := Elt F .f32) (W3 m c (Proc.devRef .tc main_v7_1)) (win2_1.blk t).view.emb (win2_5.blk t).view.emb t.val (fun z => by blk_simp; rw [(in1 t).1]) (fun z => by blk_simp; rw [(in1 t).2]; omega)
    (fun z => by blk_simp; rw [(out1 t).1]) (fun z => by blk_simp; rw [(out1 t).2.1]; omega) (fun z => by blk_simp; rw [(out1 t).2.2]; omega) y

theorem W4_v8_2 (c : Dev nD) : W4 m c (Proc.devRef .tc main_v8_2) = laid ((operands m c).res 2) := by
  refine (W4_arr m c 6).trans ?_
  rw [← (W3_got m c).2.2.1]
  refine (dat2 (V3 m) c).arrAt_eq_of_covers 6 _ (by decide +kernel) fun t hf y => ?_
  blk_simp
  rw [after2_6]
  exact lays (α := Elt F .f32) (W3 m c (Proc.devRef .tc main_v7_2)) (win2_2.blk t).view.emb (win2_6.blk t).view.emb t.val (fun z => by blk_simp; rw [(in2 t).1]) (fun z => by blk_simp; rw [(in2 t).2]; omega)
    (fun z => by blk_simp; rw [(out2 t).1]) (fun z => by blk_simp; rw [(out2 t).2.1]; omega) (fun z => by blk_simp; rw [(out2 t).2.2]; omega) y

theorem W4_v8_3 (c : Dev nD) : W4 m c (Proc.devRef .tc main_v8_3) = laid ((operands m c).res 3) := by
  refine (W4_arr m c 7).trans ?_
  rw [← (W3_got m c).2.2.2]
  refine (dat2 (V3 m) c).arrAt_eq_of_covers 7 _ (by decide +kernel) fun t hf y => ?_
  blk_simp
  rw [after2_7]
  exact lays (α := Elt F .f32) (W3 m c (Proc.devRef .tc main_v7_3)) (win2_3.blk t).view.emb (win2_7.blk t).view.emb t.val (fun z => by blk_simp; rw [(in3 t).1]) (fun z => by blk_simp; rw [(in3 t).2]; omega)
    (fun z => by blk_simp; rw [(out3 t).1]) (fun z => by blk_simp; rw [(out3 t).2.1]; omega) (fun z => by blk_simp; rw [(out3 t).2.2]; omega) y

/-- The last call changes its results only. -/
theorem W4_of (c : Dev nD) (r : Ref sig .tc) (h : ∀ w : Fin cfg2.W, Pipeline.arrRef spec2 w ≠ r) (h' : r ∉ [main_v7_0, main_v7_1, main_v7_2, main_v7_3]) :
    W4 m c (Proc.devRef .tc r) = W2 m c (Proc.devRef .tc r) := (W4_of_ne m c r h).trans (W3_of m c r h')

/-! ## What the closing operations leave -/

theorem W4_arg1 (c : Dev nD) : W4 m c (Proc.devRef .tc main_arg1) = m (c.tc.loc main_arg1) :=
  (W4_of m c main_arg1 (by decide) (by decide)).trans (W2_of m c main_arg1 (by decide) (by decide))
theorem W4_arg2 (c : Dev nD) : W4 m c (Proc.devRef .tc main_arg2) = m (c.tc.loc main_arg2) :=
  (W4_of m c main_arg2 (by decide) (by decide)).trans (W2_of m c main_arg2 (by decide) (by decide))
theorem W4_v0_4 (c : Dev nD) : W4 m c (Proc.devRef .tc main_v0_4)
    = out0_7 (m (c.tc.loc main_arg0)) (m (c.tc.loc main_arg4)) (m (c.tc.loc main_arg6)) :=
  (W4_of m c main_v0_4 (by decide) (by decide)).trans
    ((StableHlo.after_unwritten [main_v1, main_v2, main_v3, main_v4, main_v5, main_v6] flat_writes (by decide) _).trans (W1_v0_4 m c))

/-- Three prompts of six, from prompt `o`, for every query. -/
def threePrompts (o : ℕ) (hs : S6x768.Slices ![o, 0] S3x768) (g : (⟨S6x768, .f32⟩ : BufTy).Contents (Elt F)) : (⟨S128x3x768, .f32⟩ : BufTy).Contents (Elt F) :=
  broadcastInDim S128x3x768 ![0, 1, 2] bcast_S1x3x768_S128x3x768_0_1_2 (broadcastInDim S1x3x768 ![1, 2] bcast_S3x768_S1x3x768_1_2
    (extractStridedSlice S3x768 ![o, 0] g hs))

theorem W5_v11 (c : Dev nD) : W5 m c (Proc.devRef .tc main_v11) = threePrompts 0 slices_S6x768_S3x768_0_0 (m (c.tc.loc main_arg1)) := by
  rw [← W4_arg1 m c]; rfl
theorem W5_v14 (c : Dev nD) : W5 m c (Proc.devRef .tc main_v14) = threePrompts 3 slices_S6x768_S3x768_3_0 (m (c.tc.loc main_arg1)) := by
  rw [← W4_arg1 m c]; rfl
theorem W5_v17 (c : Dev nD) : W5 m c (Proc.devRef .tc main_v17) = threePrompts 0 slices_S6x768_S3x768_0_0 (m (c.tc.loc main_arg2)) := by
  rw [← W4_arg2 m c]; rfl
theorem W5_v20 (c : Dev nD) : W5 m c (Proc.devRef .tc main_v20) = threePrompts 3 slices_S6x768_S3x768_3_0 (m (c.tc.loc main_arg2)) := by
  rw [← W4_arg2 m c]; rfl
/-- The loss is the corner of its block. -/
theorem W5_v22 (c : Dev nD) : W5 m c (Proc.devRef .tc main_v22)
    = shapeCast S_ (extractStridedSlice S1x1 ![0, 0] (out0_7 (m (c.tc.loc main_arg0)) (m (c.tc.loc main_arg4)) (m (c.tc.loc main_arg6))) slices_S8x128_S1x1_0_0) shapeCasts_S1x1_S_ := by
  rw [← W4_v0_4 m c]; rfl

end Cert.Proof.Sc

end
-- ==== Proof.Frames.lean ====
/- Both programs run to the end, whatever the arguments hold, and leave them as they were. -/
module

public import Idealize.ShloMosaic.Lib.Quiescent
public import proofs.«01_k».proof.Defs
public import proofs.«01_k».proof.Proof.Launch
public import proofs.«01_k».proof.Proof.Lists
public import proofs.«01_k».proof.Proof.Written
public import proofs.«01_k».proof.Proof.Gen.ReferenceIdeal.Run

@[expose] public section

set_option maxRecDepth 16384

noncomputable section

namespace Cert.Proof.Sc

open Cert.KernelIdeal Cert.KernelIdeal.Gen
open Idealize.ShloMosaic Idealize.ShloMosaic.TcCoe

variable (m : (ℓ : Loc nD τ sig) → Buf (Elt Ideal) ℓ)

/-- Place `q` of a flat list is slot `q % 336` of query `q / 336`. -/
theorem flat_list {α : Type} (x : S128x336.Idx → α) (q : Fin 43008) :
    shapeCast S43008 x shapeCasts_S128x336_S43008 (listIx q) = x (ix2 ⟨q.val / 336, by omega⟩ ⟨q.val % 336, Nat.mod_lt _ (by decide)⟩) := by
  refine shapeCast_apply x _ _ _ ?_
  rw [Shape.rowMajor_val_two, Shape.rowMajor_val_one]
  show q.val / 336 * 336 + q.val % 336 = q.val
  omega

/-- The query and the slot of a place of a flat list. -/
abbrev qOf (q : Fin 43008) : Fin 128 := ⟨q.val / 336, by omega⟩
/-- The slot of a place of a flat list. -/
abbrev sOf (q : Fin 43008) : Fin 336 := ⟨q.val % 336, Nat.mod_lt _ (by decide)⟩

/-- The rows that the two tables are asked for: those of the picked entries, first halves and second halves. -/
theorem list_entry (c : Dev nD) (q : Fin 43008) :
    (operands m c).list 0 (listIx q) = BitVec.ofNat 32 (slot (picks (m (c.tc.loc main_arg0)) (m (c.tc.loc main_arg4)) (qOf q)) 0 (qOf q) (sOf q))
    ∧ (operands m c).list 1 (listIx q) = BitVec.ofNat 32 (slot (picks (m (c.tc.loc main_arg0)) (m (c.tc.loc main_arg4)) (qOf q)) 60 (qOf q) (sOf q))
    ∧ (operands m c).list 2 (listIx q) = BitVec.ofNat 32 (slot (picks (m (c.tc.loc main_arg0)) (m (c.tc.loc main_arg6)) (qOf q)) 0 (qOf q) (sOf q))
    ∧ (operands m c).list 3 (listIx q) = BitVec.ofNat 32 (slot (picks (m (c.tc.loc main_arg0)) (m (c.tc.loc main_arg6)) (qOf q)) 60 (qOf q) (sOf q)) := by
  obtain ⟨h0, h1, h2, h3⟩ := lists_eq m c
  rw [h0, h1, h2, h3, flat_list, flat_list, flat_list, flat_list]
  exact ⟨out0_3_apply _ _ _ _ _, out0_4_apply _ _ _ _ _, out0_5_apply _ _ _ _ _, out0_6_apply _ _ _ _ _⟩

theorem toNat_slot (k : ℕ → Fin 36) (half : ℕ) (hh : half ≤ 60) (b : Fin 128) (j : Fin 336) :
    (BitVec.ofNat 32 (slot k half b j)).toNat = slot k half b j := by
  rw [BitVec.toNat_ofNat]
  exact Nat.mod_eq_of_lt (lt_trans (slot_lt k half hh b j) (by decide))

/-- Every row number names a row of its table. -/
theorem inRange (c : Dev nD) : (operands m c).InRange := by
  intro n j
  obtain ⟨q, rfl⟩ : ∃ q : Fin 43008, j = listIx q := ⟨j 0, funext fun a => by match a with | ⟨0, _⟩ => rfl⟩
  obtain ⟨h0, h1, h2, h3⟩ := list_entry m c q
  match n with
  | ⟨0, _⟩ => show ((operands m c).list 0 (listIx q)).toNat < _; rw [h0, toNat_slot _ _ (by decide)]; exact slot_lt _ _ (by decide) _ _
  | ⟨1, _⟩ => show ((operands m c).list 1 (listIx q)).toNat < _; rw [h1, toNat_slot _ _ (by decide)]; exact slot_lt _ _ (by decide) _ _
  | ⟨2, _⟩ => show ((operands m c).list 2 (listIx q)).toNat < _; rw [h2, toNat_slot _ _ (by decide)]; exact slot_lt _ _ (by decide) _ _
  | ⟨3, _⟩ => show ((operands m c).list 3 (listIx q)).toNat < _; rw [h3, toNat_slot _ _ (by decide)]; exact slot_lt _ _ (by decide) _ _

theorem close_writes : (close (F := Ideal)).map HloOp.writes
    = [main_v9, main_v10, main_v11, main_v12, main_v13, main_v14, main_v15, main_v16, main_v17, main_v18, main_v19, main_v20, main_v21, main_v22].map
      fun w => {Proc.devRef (τ := τ) .tc w} := rfl

/-- A buffer that nothing of the program writes ends as it began. -/
theorem W5_of (c : Dev nD) (r : Ref sig .tc)
    (h5 : r ∉ [main_v9, main_v10, main_v11, main_v12, main_v13, main_v14, main_v15, main_v16, main_v17, main_v18, main_v19, main_v20, main_v21, main_v22])
    (h4 : ∀ w : Fin cfg2.W, Pipeline.arrRef spec2 w ≠ r) (h3 : r ∉ [main_v7_0, main_v7_1, main_v7_2, main_v7_3])
    (h2 : r ∉ [main_v1, main_v2, main_v3, main_v4, main_v5, main_v6])
    (h1 : ∀ w : Fin cfg0.W, Pipeline.arrRef spec0 w = r → (cfg0.win w).isOut = false) :
    W5 m c (Proc.devRef .tc r) = m (c.tc.loc r) :=
  (StableHlo.after_unwritten _ close_writes h5 _).trans ((W4_of m c r h4 h3).trans (W2_of m c r h2 h1))

/-- The arguments end as they began. -/
theorem W5_args (c : Dev nD) :
    W5 m c (Proc.devRef .tc main_arg0) = m (c.tc.loc main_arg0) ∧ W5 m c (Proc.devRef .tc main_arg1) = m (c.tc.loc main_arg1)
    ∧ W5 m c (Proc.devRef .tc main_arg2) = m (c.tc.loc main_arg2) ∧ W5 m c (Proc.devRef .tc main_arg3) = m (c.tc.loc main_arg3)
    ∧ W5 m c (Proc.devRef .tc main_arg4) = m (c.tc.loc main_arg4) ∧ W5 m c (Proc.devRef .tc main_arg5) = m (c.tc.loc main_arg5)
    ∧ W5 m c (Proc.devRef .tc main_arg6) = m (c.tc.loc main_arg6) ∧ W5 m c (Proc.devRef .tc main_arg7) = m (c.tc.loc main_arg7)
    ∧ W5 m c (Proc.devRef .tc main_arg8) = m (c.tc.loc main_arg8) := by
  refine ⟨?_, ?_, ?_, ?_, ?_, ?_, ?_, ?_, ?_⟩ <;> exact W5_of m c _ (by decide) (by decide) (by decide) (by decide) (by decide)

/-- The kernel's frame. -/
theorem frame_kernel : Cert.quiescent_KernelIdeal := fun m g _ =>
  θ_run_mono (run_main m g (inRange m)) fun r h => ⟨fun c => by
    obtain ⟨h0, h1, h2, h3, h4, h5, h6, h7, h8⟩ := W5_args m c
    exact ⟨(h.1 c _ (mem_uc main_arg0 (by decide))).trans h0, (h.1 c _ (mem_uc main_arg1 (by decide))).trans h1,
      (h.1 c _ (mem_uc main_arg2 (by decide))).trans h2, (h.1 c _ (mem_uc main_arg3 (by decide))).trans h3,
      (h.1 c _ (mem_uc main_arg4 (by decide))).trans h4, (h.1 c _ (mem_uc main_arg5 (by decide))).trans h5,
      (h.1 c _ (mem_uc main_arg6 (by decide))).trans h6, (h.1 c _ (mem_uc main_arg7 (by decide))).trans h7,
      (h.1 c _ (mem_uc main_arg8 (by decide))).trans h8⟩, h.2⟩

/-- The reference's frame. -/
theorem frame_reference : Cert.quiescent_ReferenceIdeal := fun m g _ =>
  θ_run_mono (Cert.ReferenceIdeal.Value.run m g) fun r h => ⟨fun c => (h c).2.2.2.2.2.2.2.2.2, sem_eq_zero_of_no_sems (by decide) r.2⟩

end Cert.Proof.Sc

end
-- ==== Proof.Takes.lean ====
/- The reference's top five and what it takes by them, entry by entry. -/
module

public import Idealize.ShloMosaic.Lib.KernelVsHost
public import proofs.«01_k».proof.Proof.Picks
public import proofs.«01_k».proof.Proof.Cosine
public import proofs.«01_k».proof.Proof.Gen.ReferenceIdeal

@[expose] public section

set_option maxRecDepth 16384

noncomputable section

namespace Cert.Proof.Sc

open Cert.ReferenceIdeal Cert.ReferenceIdeal.Gen
open Idealize.ShloMosaic Idealize.ShloMosaic.ValueIdx

/-! ## Words that name one of the thirty-six -/

theorem word_toInt (k : Fin 36) : (BitVec.ofNat 32 k.val).toInt.toNat = k.val := by
  revert k; decide
theorem words_not_neg (k : Fin 36) : IntOp.cmpi .slt (BitVec.ofNat 32 k.val) 0#32 = 0#1 := by
  revert k; decide
theorem words_inside (k : Fin 36) :
    IntOp.andi (IntOp.cmpi .sge (BitVec.ofNat 32 k.val) 0#32) (IntOp.cmpi .sle (BitVec.ofNat 32 k.val) 35#32) = 1#1 := by
  revert k; decide

/-! ## The cosines and the top five -/

/-- The queries over their lengths, as the reference has them. -/
def unitX (x : FVec Ideal S128x768 .f32) : FVec Ideal S128x768 .f32 :=
  Host.divf x (broadcastInDim S128x768 ![0, 1] bcast_S128x1_S128x768_0_1 (maximumf (Host.sqrt (broadcastInDim S128x1 ![0] bcast_S128_S128x1_0
    (Host.reduceAdd (mulf x x) (constant S_ .f32 0x00000000#32) reducesTo_S128x768_S128_d1 h_S_)))
    (broadcastInDim S128x1 ![] bcast_S_S128x1 (constant S_ .f32 0x2B8CBCCC#32))))
/-- The keys over their lengths. -/
def unitK (k : FVec Ideal S36x768 .f32) : FVec Ideal S36x768 .f32 :=
  Host.divf k (broadcastInDim S36x768 ![0, 1] bcast_S36x1_S36x768_0_1 (maximumf (Host.sqrt (broadcastInDim S36x1 ![0] bcast_S36_S36x1_0
    (Host.reduceAdd (mulf k k) (constant S_ .f32 0x00000000#32) reducesTo_S36x768_S36_d1 h_S_)))
    (broadcastInDim S36x1 ![] bcast_S_S36x1 (constant S_ .f32 0x2B8CBCCC#32))))
/-- The cosines of every query and every key. -/
def cosAll (x : FVec Ideal S128x768 .f32) (k : FVec Ideal S36x768 .f32) : FVec Ideal S128x36 .f32 :=
  Host.dotGeneral dot_S128x768_S36x768_S128x36_1_1_0_0_n_n none (unitX x) (unitK k)
/-- The five largest cosines' places, of every query. -/
def topFive (x : FVec Ideal S128x768 .f32) (k : FVec Ideal S36x768 .f32) : IVec S128x5 32 :=
  (Host.topK S128x5 1 (FloatOps.cmpfTotal .gt) (cosAll x k) sliceFits_S128x36_S128x5).2

theorem cosAll_apply (x : FVec Ideal S128x768 .f32) (k : FVec Ideal S36x768 .f32) (b : Fin 128) (p : Fin 36) :
    cosAll x k (ix2 b p) = cosine x k b p := by
  have h := Ideal.matmul_transposedRhs_apply (M := 128) (K := 768) (N := 36) none (unitX x) (unitK k) (constant ⟨2, ![128, 36]⟩ .f32 0x00000000#32) b p
  rw [constant_apply, Ideal.ofBits_zero_f32, zero_add] at h
  refine Eq.trans ?_ (h.trans (Finset.sum_congr rfl fun j _ => congrArg₂ _ ?_ ?_))
  · exact (congrFun (matmul_zero_eq_dotGeneral _ none (unitX x) (unitK k)) (ix2 b p)).symm
  · exact hostNormed_apply x b j _ (by decide) _ _ _ _
  · exact hostNormed_apply k p j _ (by decide) _ _ _ _

/-- The index row `b`, column `q`, reached along the second axis from any column of that row. -/
theorem along_row (b : Fin 128) (p q : Fin 36) : (ix2 b p : S128x36.Idx).along (1 : Fin 2) q = ix2 b q := by
  funext c
  match c with
  | ⟨0, _⟩ => rfl
  | ⟨1, _⟩ => rfl

/-- The second of two arrays sorted along rows of thirty-six, at an index. -/
theorem sort2_snd {α β : Type} (cmp : α × β → α × β → BitVec 1) (x : S128x36.Idx → α) (y : S128x36.Idx → β) (b : Fin 128) (p : Fin 36) :
    (Host.sort2 S128x36 1 cmp x y).2 (ix2 b p)
      = y (ix2 b (sortedFrom (fun q q' : Fin 36 => cmp (x (ix2 b q), y (ix2 b q)) (x (ix2 b q'), y (ix2 b q')) == 1#1) p)) := by
  exact congrArg (fun h : Fin 36 → S128x36.Idx => y (h (sortedFrom (fun q q' : Fin 36 => cmp (x (h q), y (h q)) (x (h q'), y (h q')) == 1#1) p)))
    (funext (along_row b p))

/-- The first five columns of a row. -/
theorem front_apply {β : Type} (y : S128x36.Idx → β) (b : Fin 128) (t : Fin 5) (ht : t.val < 36) :
    extractStridedSlice S128x5 (fun _ => 0) y sliceFits_S128x36_S128x5 (ix2 b t) = y (ix2 b ⟨t.val, ht⟩) := by
  unfold extractStridedSlice
  congr 1
  funext c
  match c with
  | ⟨0, _⟩ => exact Fin.ext (Nat.zero_add _)
  | ⟨1, _⟩ => exact Fin.ext (Nat.zero_add _)

/-- The number of its column, at every index. -/
def columns : IVec S128x36 32 := fun i => if hd : 1 < S128x36.rank then iotaInDim S128x36 32 ⟨1, hd⟩ i else 0#32

theorem columns_apply (b : Fin 128) (p : Fin 36) : columns (ix2 b p) = BitVec.ofNat 32 p.val := by
  unfold columns
  rw [dif_pos (show 1 < S128x36.rank by decide)]
  rfl

theorem topK_snd {α : Type} (gt : α → α → BitVec 1) (C : S128x36.Idx → α) :
    (Host.topK S128x5 1 gt C sliceFits_S128x36_S128x5).2
      = extractStridedSlice S128x5 (fun _ => 0) (Host.sort2 S128x36 1 (fun l r => gt l.1 r.1) C columns).2 sliceFits_S128x36_S128x5 := by
  unfold Host.topK columns
  rfl

/-- The words of a top five: the columns in sorted order. -/
theorem topK_word {α : Type} (gt : α → α → BitVec 1) (C : S128x36.Idx → α) (b : Fin 128) (t : Fin 5) (ht : t.val < 36) :
    (Host.topK S128x5 1 gt C sliceFits_S128x36_S128x5).2 (ix2 b t)
      = BitVec.ofNat 32 (sortedFrom (fun q q' : Fin 36 => gt (C (ix2 b q)) (C (ix2 b q')) == 1#1) ⟨t.val, ht⟩).val := by
  rw [topK_snd, front_apply _ _ _ ht, sort2_snd, columns_apply]

/-- Place `t` of query `b`'s five is the pick of round `t`. -/
theorem topFive_apply (x : FVec Ideal S128x768 .f32) (k : FVec Ideal S36x768 .f32) (b : Fin 128) (t : Fin 5) :
    topFive x k (ix2 b t) = BitVec.ofNat 32 (chosen (cosine x k b) t.val).val := by
  refine (topK_word _ (cosAll x k) b t (by omega)).trans ?_
  refine congrArg (fun q : Fin 36 => BitVec.ofNat 32 q.val) ?_
  refine sortedFrom_eq_chosen (w := cosine x k b) (fun q => (cosine_real x k b q).ne_bot) _ (fun q q' => ?_) (by omega)
  rw [cosAll_apply, cosAll_apply, Ideal.cmpfTotal_def]
  show (BitVec.ofBool (decide (cosine x k b q' < cosine x k b q)) == 1#1) = _
  cases decide (cosine x k b q' < cosine x k b q) <;> rfl

/-! ## Gathers -/

/-- A gather along the second axis reads, of every query's row, the column that the word names. -/
theorem gather_cols {α : Type} (C : S128x36.Idx → α) (w : IVec S128x5x1 32) (a b : Fin 128) (t : Fin 5) (k : Fin 36)
    (hw : w (ix3 b t 0) = BitVec.ofNat 32 k.val) :
    Host.gather gather_S128x36_S128x5x1_S128x128x5_0_1_n_n_1_2_1281 C w (ix3 a b t) = C (ix2 a k) := by
  unfold Host.gather
  congr 1
  funext c
  refine Fin.ext ?_
  set G := gather_S128x36_S128x5x1_S128x128x5_0_1_n_n_1_2_1281 with hG
  show G.start (ix3 a b t) w c + G.batchCoord (ix3 a b t) c + G.offCoord (ix3 a b t) c = _
  rw [GatherDims.batchCoord_eq_zero _ _ _ (fun h => by simp [hG, gather_S128x36_S128x5x1_S128x128x5_0_1_n_n_1_2_1281] at h)]
  match c with
  | ⟨0, _⟩ =>
    have h1 : G.start (ix3 a b t) w 0 = 0 := by unfold GatherDims.start; rw [dif_neg (by decide)]
    show G.start (ix3 a b t) w 0 + 0 + G.offCoord (ix3 a b t) 0 = a.val
    rw [h1]
    unfold GatherDims.offCoord
    rw [dif_pos (by decide), Nat.zero_add]
    rfl
  | ⟨1, _⟩ =>
    show G.start (ix3 a b t) w 1 + 0 + G.offCoord (ix3 a b t) 1 = k.val
    have h0 : G.offCoord (ix3 a b t) 1 = 0 := by unfold GatherDims.offCoord; rw [dif_neg (by decide)]
    rw [h0]
    unfold GatherDims.start
    rw [dif_pos (by decide)]
    have hi : G.siIdx (ix3 a b t) ⟨List.idxOf (1 : Fin 2) G.startIndexMap, List.idxOf_lt_length_iff.2 (by decide)⟩ = ix3 b t 0 := by
      funext d
      match d with
      | ⟨0, _⟩ => rfl
      | ⟨1, _⟩ => rfl
      | ⟨2, _⟩ => rfl
    rw [hi, hw, word_toInt]
    exact (Nat.min_eq_left (Nat.le_of_lt_succ k.isLt))

/-- A gather along the first axis reads the row of rows that the word names. -/
theorem gather_rows {α : Type} (P : S36x20x768.Idx → α) (w : IVec S128x5x1 32) (b : Fin 128) (t : Fin 5) (i : Fin 20) (j : Fin 768)
    (k : Fin 36) (hw : w (ix3 b t 0) = BitVec.ofNat 32 k.val) :
    Host.gather gather_S36x20x768_S128x5x1_S128x5x20x768_23_0_n_n_0_2_120768 P w (ix4 b t i j) = P (ix3 k i j) := by
  unfold Host.gather
  congr 1
  funext c
  refine Fin.ext ?_
  set G := gather_S36x20x768_S128x5x1_S128x5x20x768_23_0_n_n_0_2_120768 with hG
  show G.start (ix4 b t i j) w c + G.batchCoord (ix4 b t i j) c + G.offCoord (ix4 b t i j) c = _
  rw [GatherDims.batchCoord_eq_zero _ _ _ (fun h => by simp [hG, gather_S36x20x768_S128x5x1_S128x5x20x768_23_0_n_n_0_2_120768] at h)]
  match c with
  | ⟨0, _⟩ =>
    show G.start (ix4 b t i j) w 0 + 0 + G.offCoord (ix4 b t i j) 0 = k.val
    have h0 : G.offCoord (ix4 b t i j) 0 = 0 := by unfold GatherDims.offCoord; rw [dif_neg (by decide)]
    rw [h0]
    unfold GatherDims.start
    rw [dif_pos (by decide)]
    have hi : G.siIdx (ix4 b t i j) ⟨List.idxOf (0 : Fin 3) G.startIndexMap, List.idxOf_lt_length_iff.2 (by decide)⟩ = ix3 b t 0 := by
      funext d
      match d with
      | ⟨0, _⟩ => rfl
      | ⟨1, _⟩ => rfl
      | ⟨2, _⟩ => rfl
    rw [hi, hw, word_toInt]
    exact (Nat.min_eq_left (Nat.le_of_lt_succ k.isLt))
  | ⟨1, _⟩ =>
    have h1 : G.start (ix4 b t i j) w 1 = 0 := by unfold GatherDims.start; rw [dif_neg (by decide)]
    show G.start (ix4 b t i j) w 1 + 0 + G.offCoord (ix4 b t i j) 1 = i.val
    rw [h1]
    unfold GatherDims.offCoord
    rw [dif_pos (by decide), Nat.zero_add]
    rfl
  | ⟨2, _⟩ =>
    have h1 : G.start (ix4 b t i j) w 2 = 0 := by unfold GatherDims.start; rw [dif_neg (by decide)]
    show G.start (ix4 b t i j) w 2 + 0 + G.offCoord (ix4 b t i j) 2 = j.val
    rw [h1]
    unfold GatherDims.offCoord
    rw [dif_pos (by decide), Nat.zero_add]
    rfl

/-! ## Takes: a gather whose words are brought into range, and masked where they are not -/

/-- The words a take looks at: a negative one counts from the end. -/
def wrapped (w : IVec S128x5 32) : IVec S128x5x1 32 :=
  broadcastInDim S128x5x1 ![0, 1] bcast_S128x5_S128x5x1_0_1 (select (cmpi .slt w (broadcastInDim S128x5 ![] bcast_S_S128x5 (constantI S_ 32 0#32)))
    (addi w (broadcastInDim S128x5 ![] bcast_S_S128x5 (constantI S_ 32 36#32))) w)
/-- Which words name one of the thirty-six. -/
def named (w : IVec S128x5 32) : IVec S128x5 1 :=
  Host.reduce IntOp.andi (andi (cmpi .sge (wrapped w) (broadcastInDim S128x5x1 ![] bcast_S_S128x5x1 (constantI S_ 32 0#32)))
    (cmpi .sle (wrapped w) (broadcastInDim S128x5x1 ![0, 1, 2] bcast_S1x1x1_S128x5x1_0_1_2 (broadcastInDim S1x1x1 ![2] bcast_S1_S1x1x1_2 (constantI S1 32 35#32)))))
    (constantI S_ 1 1#1) reducesTo_S128x5x1_S128x5_d2 h_S_

variable {w : IVec S128x5 32} {n : Fin 128 → Fin 5 → Fin 36}

theorem wrapped_apply (hw : ∀ b t, w (ix2 b t) = BitVec.ofNat 32 (n b t).val) (b : Fin 128) (t : Fin 5) :
    wrapped w (ix3 b t 0) = BitVec.ofNat 32 (n b t).val := by
  have e : wrapped w (ix3 b t 0) = Scalar.select (IntOp.cmpi .slt (w (ix2 b t)) 0#32) (w (ix2 b t) + 36#32) (w (ix2 b t)) := by
    refine (broadcastInDim_apply _ _ _ _ (ix2 b t) fun a => ?_).trans rfl
    match a with
    | ⟨0, _⟩ => rfl
    | ⟨1, _⟩ => rfl
  rw [e, hw, words_not_neg]
  rfl

theorem fold_ones {ι : Type} (l : List ι) (f : ι → BitVec 1) (hf : ∀ i ∈ l, f i = 1#1) : l.foldl (fun v i => IntOp.andi v (f i)) 1#1 = 1#1 := by
  induction l with
  | nil => rfl
  | cons a l ih => rw [List.foldl_cons, hf a List.mem_cons_self, show IntOp.andi 1#1 1#1 = 1#1 from by decide]; exact ih fun i hi => hf i (List.mem_cons_of_mem _ hi)

theorem named_apply (hw : ∀ b t, w (ix2 b t) = BitVec.ofNat 32 (n b t).val) (i : S128x5.Idx) : named w i = 1#1 := by
  unfold named
  refine (Host.reduce_eq_foldl _ _ _ _ _ _).trans ?_
  refine fold_ones _ _ fun y _ => ?_
  obtain ⟨b, t, z, rfl⟩ : ∃ (b : Fin 128) (t : Fin 5) (z : Fin 1), y = ix3 b t z := ⟨y 0, y 1, y 2, by
    funext d
    match d with
    | ⟨0, _⟩ => rfl
    | ⟨1, _⟩ => rfl
    | ⟨2, _⟩ => rfl⟩
  obtain rfl : z = 0 := Subsingleton.elim _ _
  show IntOp.andi (IntOp.cmpi .sge (wrapped w (ix3 b t 0)) 0#32) (IntOp.cmpi .sle (wrapped w (ix3 b t 0)) 35#32) = 1#1
  rw [wrapped_apply hw]
  exact words_inside _

/-- What the reference takes of a table of rows. -/
def takeRows (P : FVec Ideal S36x20x768 .f32) (w : IVec S128x5 32) : FVec Ideal S128x5x20x768 .f32 :=
  select (broadcastInDim S128x5x20x768 ![0, 1] bcast_S128x5_S128x5x20x768_0_1 (named w))
    (Host.gather gather_S36x20x768_S128x5x1_S128x5x20x768_23_0_n_n_0_2_120768 P (wrapped w))
    (broadcastInDim S128x5x20x768 ![] bcast_S_S128x5x20x768 (constant S_ .f32 0x7FC00000#32))
/-- What the reference takes of the cosines. -/
def takeCols (C : FVec Ideal S128x36 .f32) (w : IVec S128x5 32) : FVec Ideal S128x128x5 .f32 :=
  select (broadcastInDim S128x128x5 ![1, 2] bcast_S128x5_S128x128x5_1_2 (named w))
    (Host.gather gather_S128x36_S128x5x1_S128x128x5_0_1_n_n_1_2_1281 C (wrapped w))
    (broadcastInDim S128x128x5 ![] bcast_S_S128x128x5 (constant S_ .f32 0x7FC00000#32))

theorem takeRows_apply (P : FVec Ideal S36x20x768 .f32) (hw : ∀ b t, w (ix2 b t) = BitVec.ofNat 32 (n b t).val)
    (b : Fin 128) (t : Fin 5) (i : Fin 20) (j : Fin 768) : takeRows P w (ix4 b t i j) = P (ix3 (n b t) i j) := by
  refine Eq.trans ?_ (gather_rows P (wrapped w) b t i j (n b t) (wrapped_apply hw b t))
  show Scalar.select (named w _) _ _ = _
  rw [named_apply hw]
  rfl

theorem takeCols_apply (C : FVec Ideal S128x36 .f32) (hw : ∀ b t, w (ix2 b t) = BitVec.ofNat 32 (n b t).val)
    (a b : Fin 128) (t : Fin 5) : takeCols C w (ix3 a b t) = C (ix2 a (n b t)) := by
  refine Eq.trans ?_ (gather_cols C (wrapped w) a b t (n b t) (wrapped_apply hw b t))
  show Scalar.select (named w _) _ _ = _
  rw [named_apply hw]
  rfl

end Cert.Proof.Sc

end
-- ==== Proof.Rows.lean ====
/- The rows that both programs fetch for every query's picks are the same. -/
module

public import proofs.«01_k».proof.Proof.Frames
public import proofs.«01_k».proof.Proof.Takes

@[expose] public section

set_option maxRecDepth 16384

noncomputable section

namespace Cert.Proof.Sc

open Idealize.ShloMosaic Idealize.ShloMosaic.TcCoe

/-- Entry `i`, `j` of row `r` of the fifty rows of query `b`'s picks, the rows of an entry counted from `o`. -/
def fetched (P : FVec Ideal Cert.ReferenceIdeal.S36x20x768 .f32) (n : Fin 128 → Fin 5 → Fin 36) (o : ℕ) (ho : o ≤ 10)
    (b : Fin 128) (r : Fin 50) (j : Fin 768) : EReal :=
  P (ValueIdx.ix3 (n b ⟨r.val / 10, by omega⟩) ⟨o + r.val % 10, by omega⟩ j)

/-- The picks of every query, as the reference's words name them. -/
def five (x : FVec Ideal Cert.ReferenceIdeal.S128x768 .f32) (k : FVec Ideal Cert.ReferenceIdeal.S36x768 .f32) (b : Fin 128) (t : Fin 5) : Fin 36 :=
  chosen (cosine x k b) t.val

section Kernel

open Cert.KernelIdeal Cert.KernelIdeal.Gen

/-- A table's row and column, in the array that it is a flat view of. -/
theorem table_apply {α : Type} (P : S36x20x768.Idx → α) (r : Fin 4320) (l : Fin 128) (k : Fin 36) (i : Fin 20) (j : Fin 768)
    (h : r.val * 128 + l.val = (k.val * 20 + i.val) * 768 + j.val) :
    shapeCast S4320x128 P shapeCasts_S36x20x768_S4320x128 (tabIx r l) = P (ValueIdx.ix3 k i j) := by
  refine shapeCast_apply P _ _ _ ?_
  rw [Shape.rowMajor_val_two, Shape.rowMajor_val_three]
  exact h.symm

theorem picks_eq (x : FVec Ideal S128x768 .f32) (k : FVec Ideal S36x768 .f32) (b : Fin 128) (t : ℕ) :
    picks x k b t = chosen (cosine x k b) t :=
  congrArg (fun w => chosen w t) (funext fun p => cosines_apply x k b p)

/-- The rows that a list of slots gathers, laid out by query. -/
theorem laid_gath (P : FVec Ideal S36x20x768 .f32) (x : FVec Ideal S128x768 .f32) (k : FVec Ideal S36x768 .f32) (l : S43008.Idx → BitVec 32)
    (o : ℕ) (ho : o ≤ 10) (hl : ∀ q : Fin 43008, l (listIx q) = BitVec.ofNat 32 (slot (picks x k (qOf q)) (6 * o) (qOf q) (sOf q)))
    (b : Fin 128) (r : Fin 50) (j : Fin 768) :
    laid (gath (shapeCast S4320x128 P shapeCasts_S36x20x768_S4320x128) l) (ValueIdx.ix3 b r j) = fetched P (five x k) o ho b r j := by
  have hj : j.val % 128 < 128 := Nat.mod_lt _ (by decide)
  have hq : 336 * b.val + 56 * (j.val / 128) + r.val < 43008 := by omega
  obtain ⟨q, hqv⟩ : ∃ q : Fin 43008, q = ⟨336 * b.val + 56 * (j.val / 128) + r.val, hq⟩ := ⟨_, rfl⟩
  have e0 : qOf q = b := Fin.ext (by rw [hqv]; show (336 * b.val + 56 * (j.val / 128) + r.val) / 336 = b.val; omega)
  have e1 : (sOf q).val = 56 * (j.val / 128) + r.val := by
    rw [hqv]; show (336 * b.val + 56 * (j.val / 128) + r.val) % 336 = _; omega
  have hs : slot (picks x k (qOf q)) (6 * o) (qOf q) (sOf q) = (five x k b ⟨r.val / 10, by omega⟩).val * 120 + (r.val % 10 * 6 + j.val / 128) + 6 * o := by
    unfold slot
    rw [e0, e1, if_pos (by omega), picks_eq, show (56 * (j.val / 128) + r.val) % 56 = r.val by omega,
      show (56 * (j.val / 128) + r.val) / 56 = j.val / 128 by omega]
    rfl
  have hw : (l (listIx q)).toNat = (five x k b ⟨r.val / 10, by omega⟩).val * 120 + (r.val % 10 * 6 + j.val / 128) + 6 * o := by
    rw [hl, toNat_slot _ _ (by omega), hs]
  have e : laid (gath (shapeCast S4320x128 P shapeCasts_S36x20x768_S4320x128) l) (ValueIdx.ix3 b r j)
      = shapeCast S4320x128 P shapeCasts_S36x20x768_S4320x128 (tabIx ⟨(l (listIx q)).toNat % 4320, Nat.mod_lt _ (by decide)⟩ ⟨j.val % 128, hj⟩) := by
    subst hqv; rfl
  rw [e]
  have h36 := (five x k b ⟨r.val / 10, by omega⟩).isLt
  refine table_apply P _ _ _ _ _ ?_
  show (l (listIx q)).toNat % 4320 * 128 + j.val % 128 = _
  rw [hw, Nat.mod_eq_of_lt (by omega)]
  show _ = ((five x k b ⟨r.val / 10, by omega⟩).val * 20 + (o + r.val % 10)) * 768 + j.val
  omega

variable (m : (ℓ : Loc nD τ sig) → Buf (Elt Ideal) ℓ)

/-- A buffer that the closing operations do not write keeps what the last call left in it. -/
theorem W5_last (c : Dev nD) (r : Ref sig .tc)
    (h5 : r ∉ [main_v9, main_v10, main_v11, main_v12, main_v13, main_v14, main_v15, main_v16, main_v17, main_v18, main_v19, main_v20, main_v21, main_v22]) :
    W5 m c (Proc.devRef .tc r) = W4 m c (Proc.devRef .tc r) := StableHlo.after_unwritten _ close_writes h5 _

/-- What the program ends with in its four results of fetched rows. -/
theorem W5_rows (c : Dev nD) (b : Fin 128) (r : Fin 50) (j : Fin 768) :
    W5 m c (Proc.devRef .tc main_v8_0) (ValueIdx.ix3 b r j)
      = fetched (m (c.tc.loc main_arg3)) (five (m (c.tc.loc main_arg0)) (m (c.tc.loc main_arg4))) 0 (by decide) b r j
    ∧ W5 m c (Proc.devRef .tc main_v8_1) (ValueIdx.ix3 b r j)
      = fetched (m (c.tc.loc main_arg3)) (five (m (c.tc.loc main_arg0)) (m (c.tc.loc main_arg4))) 10 (by decide) b r j
    ∧ W5 m c (Proc.devRef .tc main_v8_2) (ValueIdx.ix3 b r j)
      = fetched (m (c.tc.loc main_arg5)) (five (m (c.tc.loc main_arg0)) (m (c.tc.loc main_arg6))) 0 (by decide) b r j
    ∧ W5 m c (Proc.devRef .tc main_v8_3) (ValueIdx.ix3 b r j)
      = fetched (m (c.tc.loc main_arg5)) (five (m (c.tc.loc main_arg0)) (m (c.tc.loc main_arg6))) 10 (by decide) b r j := by
  have h0 : W5 m c (Proc.devRef .tc main_v8_0) = laid ((operands m c).res 0) :=
    (W5_last m c main_v8_0 (by decide)).trans (W4_v8_0 m c)
  have h1 : W5 m c (Proc.devRef .tc main_v8_1) = laid ((operands m c).res 1) :=
    (W5_last m c main_v8_1 (by decide)).trans (W4_v8_1 m c)
  have h2 : W5 m c (Proc.devRef .tc main_v8_2) = laid ((operands m c).res 2) :=
    (W5_last m c main_v8_2 (by decide)).trans (W4_v8_2 m c)
  have h3 : W5 m c (Proc.devRef .tc main_v8_3) = laid ((operands m c).res 3) :=
    (W5_last m c main_v8_3 (by decide)).trans (W4_v8_3 m c)
  rw [h0, h1, h2, h3]
  refine ⟨?_, ?_, ?_, ?_⟩
  · show laid (gath (operands m c).tabP ((operands m c).list 0)) _ = _
    rw [tabP_eq]
    exact laid_gath (m (c.tc.loc main_arg3)) (m (c.tc.loc main_arg0)) (m (c.tc.loc main_arg4)) _ 0 (by decide) (fun q => (list_entry m c q).1) b r j
  · show laid (gath (operands m c).tabP ((operands m c).list 1)) _ = _
    rw [tabP_eq]
    exact laid_gath (m (c.tc.loc main_arg3)) (m (c.tc.loc main_arg0)) (m (c.tc.loc main_arg4)) _ 10 (by decide) (fun q => (list_entry m c q).2.1) b r j
  · show laid (gath (operands m c).tabK ((operands m c).list 2)) _ = _
    rw [tabK_eq]
    exact laid_gath (m (c.tc.loc main_arg5)) (m (c.tc.loc main_arg0)) (m (c.tc.loc main_arg6)) _ 0 (by decide) (fun q => (list_entry m c q).2.2.1) b r j
  · show laid (gath (operands m c).tabK ((operands m c).list 3)) _ = _
    rw [tabK_eq]
    exact laid_gath (m (c.tc.loc main_arg5)) (m (c.tc.loc main_arg0)) (m (c.tc.loc main_arg6)) _ 10 (by decide) (fun q => (list_entry m c q).2.2.2) b r j

end Kernel

section Reference

open Cert.ReferenceIdeal Cert.ReferenceIdeal.Gen

/-- Ten rows of every entry, from row `o`, with the five entries of a query one after another. -/
theorem rows_apply {α : Type} (T : S128x5x20x768.Idx → α) (o : ℕ) (ho : o ≤ 10) (hs : S128x5x20x768.Slices ![0, 0, o, 0] S128x5x10x768)
    (b : Fin 128) (r : Fin 50) (j : Fin 768) :
    shapeCast S128x50x768 (extractStridedSlice S128x5x10x768 ![0, 0, o, 0] T hs) shapeCasts_S128x5x10x768_S128x50x768 (ValueIdx.ix3 b r j)
      = T (ValueIdx.ix4 b ⟨r.val / 10, by omega⟩ ⟨o + r.val % 10, by omega⟩ j) := by
  refine (shapeCast_apply _ _ _ (ValueIdx.ix4 b ⟨r.val / 10, by omega⟩ ⟨r.val % 10, by omega⟩ j) ?_).trans ?_
  · rw [Shape.rowMajor_val_four, Shape.rowMajor_val_three]
    show ((b.val * 5 + r.val / 10) * 10 + r.val % 10) * 768 + j.val = (b.val * 50 + r.val) * 768 + j.val
    omega
  · unfold extractStridedSlice
    congr 1
    funext d
    match d with
    | ⟨0, _⟩ => exact Fin.ext (Nat.zero_add _)
    | ⟨1, _⟩ => exact Fin.ext (Nat.zero_add _)
    | ⟨2, _⟩ => rfl
    | ⟨3, _⟩ => exact Fin.ext (Nat.zero_add _)

/-- The reference's fetched rows. -/
theorem taken_rows (P : FVec Ideal S36x20x768 .f32) (x : FVec Ideal S128x768 .f32) (k : FVec Ideal S36x768 .f32) (o : ℕ) (ho : o ≤ 10)
    (hs : S128x5x20x768.Slices ![0, 0, o, 0] S128x5x10x768) (b : Fin 128) (r : Fin 50) (j : Fin 768) :
    shapeCast S128x50x768 (extractStridedSlice S128x5x10x768 ![0, 0, o, 0] (takeRows P (topFive x k)) hs) shapeCasts_S128x5x10x768_S128x50x768 (ValueIdx.ix3 b r j)
      = fetched P (five x k) o ho b r j :=
  (rows_apply _ o ho hs b r j).trans (takeRows_apply P (n := five x k) (topFive_apply x k) _ _ _ _)

variable (m : (ℓ : Loc nD τ sig) → Buf (Elt Ideal) ℓ)

theorem R_rows (c : Dev nD) (b : Fin 128) (r : Fin 50) (j : Fin 768) :
    Value.res_main_v27 m c (ValueIdx.ix3 b r j)
      = fetched (m (c.tc.loc main_arg3)) (five (m (c.tc.loc main_arg0)) (m (c.tc.loc main_arg4))) 0 (by decide) b r j
    ∧ Value.res_main_v29 m c (ValueIdx.ix3 b r j)
      = fetched (m (c.tc.loc main_arg3)) (five (m (c.tc.loc main_arg0)) (m (c.tc.loc main_arg4))) 10 (by decide) b r j
    ∧ Value.res_main_v44 m c (ValueIdx.ix3 b r j)
      = fetched (m (c.tc.loc main_arg5)) (five (m (c.tc.loc main_arg0)) (m (c.tc.loc main_arg6))) 0 (by decide) b r j
    ∧ Value.res_main_v46 m c (ValueIdx.ix3 b r j)
      = fetched (m (c.tc.loc main_arg5)) (five (m (c.tc.loc main_arg0)) (m (c.tc.loc main_arg6))) 10 (by decide) b r j :=
  ⟨taken_rows _ _ _ 0 _ slices_S128x5x20x768_S128x5x10x768_0_0_0_0 b r j, taken_rows _ _ _ 10 _ slices_S128x5x20x768_S128x5x10x768_0_0_10_0 b r j,
    taken_rows _ _ _ 0 _ slices_S128x5x20x768_S128x5x10x768_0_0_0_0 b r j, taken_rows _ _ _ 10 _ slices_S128x5x20x768_S128x5x10x768_0_0_10_0 b r j⟩

end Reference

end Cert.Proof.Sc

end
-- ==== Proof.Ends.lean ====
/- The loss and the repeated prompts: what both programs end with in them. -/
module

public import proofs.«01_k».proof.Proof.Loss
public import proofs.«01_k».proof.Proof.Rows

@[expose] public section

set_option maxRecDepth 16384

noncomputable section

namespace Cert.Proof.Sc

open Idealize.ShloMosaic Idealize.ShloMosaic.TcCoe

/-- The mean of one less the picks' cosines, over queries, queries and rounds. -/
def meanOf (x : FVec Ideal Cert.ReferenceIdeal.S128x768 .f32) (k : FVec Ideal Cert.ReferenceIdeal.S36x768 .f32) : EReal :=
  Ideal.div (0 + ∑ a : Fin 128, ∑ b : Fin 128, ∑ t : Fin 5, (1 - cosine x k a (chosen (cosine x k b) t.val))) ((81920 : ℝ) : EReal)

/-- The loss: a third of the two tables' means. -/
def loss (x : FVec Ideal Cert.ReferenceIdeal.S128x768 .f32) (k₁ k₂ : FVec Ideal Cert.ReferenceIdeal.S36x768 .f32) : EReal :=
  Ideal.div (0 + meanOf x k₁ + meanOf x k₂) (Ideal.ofBits .f32 0x40400000#32)

section Reference

open Cert.ReferenceIdeal Cert.ReferenceIdeal.Gen

/-- The reference's mean. -/
def meanAll (x : FVec Ideal S128x768 .f32) (k : FVec Ideal S36x768 .f32) : FVec Ideal S_ .f32 :=
  Host.divf (Host.reduceAdd (subf (broadcastInDim S128x128x5 ![] bcast_S_S128x128x5 (constant S_ .f32 0x3F800000#32)) (takeCols (cosAll x k) (topFive x k)))
    (constant S_ .f32 0x00000000#32) reducesTo_S128x128x5_S_d0_1_2 h_S_) (constant S_ .f32 0x47A00000#32)

theorem meanAll_apply (x : FVec Ideal S128x768 .f32) (k : FVec Ideal S36x768 .f32) (i : S_.Idx) : meanAll x k i = meanOf x k := by
  have e : Host.reduceAdd (subf (broadcastInDim S128x128x5 ![] bcast_S_S128x128x5 (constant S_ .f32 0x3F800000#32)) (takeCols (cosAll x k) (topFive x k)))
      (constant S_ .f32 0x00000000#32) reducesTo_S128x128x5_S_d0_1_2 h_S_ i
      = 0 + ∑ a : Fin 128, ∑ b : Fin 128, ∑ t : Fin 5, (1 - cosine x k a (chosen (cosine x k b) t.val)) := by
    refine (Ideal.hostReduceAdd_total reducesTo_S128x128x5_S_d0_1_2 (fun b => b.elim0) _ _ i).trans (congrArg₂ _ Ideal.ofBits_zero_f32 ?_)
    refine (sum_idx3 _).trans ?_
    refine Finset.sum_congr rfl fun a _ => Finset.sum_congr rfl fun b _ => Finset.sum_congr rfl fun t _ => ?_
    show Ideal.ofBits .f32 0x3F800000#32 - takeCols (cosAll x k) (topFive x k) (ValueIdx.ix3 a b t) = _
    rw [takeCols_apply (n := five x k) _ (topFive_apply x k), cosAll_apply, Ideal.ofBits_one_f32]
    rfl
  refine (congrArg (fun z : EReal => Ideal.div z (Ideal.ofBits .f32 0x47A00000#32)) e).trans ?_
  rw [ofBits_count]
  rfl

variable (m : (ℓ : Loc nD τ sig) → Buf (Elt Ideal) ℓ)

theorem R_loss (c : Dev nD) (i : S_.Idx) :
    Value.res_main_v47 m c i = loss (m (c.tc.loc main_arg0)) (m (c.tc.loc main_arg4)) (m (c.tc.loc main_arg6)) := by
  show Ideal.div ((Ideal.ofBits .f32 0x00000000#32 + meanAll (m (c.tc.loc main_arg0)) (m (c.tc.loc main_arg4)) i)
    + meanAll (m (c.tc.loc main_arg0)) (m (c.tc.loc main_arg6)) i) (Ideal.ofBits .f32 0x40400000#32) = _
  rw [meanAll_apply, meanAll_apply, Ideal.ofBits_zero_f32]
  rfl

/-- Three of six prompts, from prompt `o`, for every query. -/
theorem prompts_apply {α : Type} (g : S6x768.Idx → α) (o : ℕ) (ho : o ≤ 3) (hs : S128x6x768.Slices ![0, o, 0] S128x3x768)
    (b : Fin 128) (r : Fin 3) (j : Fin 768) :
    extractStridedSlice S128x3x768 ![0, o, 0] (broadcastInDim S128x6x768 ![0, 1, 2] bcast_S1x6x768_S128x6x768_0_1_2
      (broadcastInDim S1x6x768 ![1, 2] bcast_S6x768_S1x6x768_1_2 g)) hs (ValueIdx.ix3 b r j) = g (ValueIdx.ix2 ⟨o + r.val, by omega⟩ j) := by
  unfold extractStridedSlice
  refine (broadcastInDim_apply _ _ _ _ (ValueIdx.ix3 (0 : Fin 1) (⟨o + r.val, by omega⟩ : Fin 6) j) fun d => ?_).trans
    (broadcastInDim_apply _ _ _ _ _ fun d => ?_)
  · match d with
    | ⟨0, _⟩ => rfl
    | ⟨1, _⟩ => rfl
    | ⟨2, _⟩ => exact (Nat.zero_add _).symm
  · match d with
    | ⟨0, _⟩ => rfl
    | ⟨1, _⟩ => rfl

end Reference

section Kernel

open Cert.KernelIdeal Cert.KernelIdeal.Gen

theorem threePrompts_apply (o : ℕ) (ho : o ≤ 3) (hs : S6x768.Slices ![o, 0] S3x768) (g : FVec Ideal S6x768 .f32) (b : Fin 128) (r : Fin 3) (j : Fin 768) :
    threePrompts (F := Ideal) o hs g (ValueIdx.ix3 b r j) = g (ValueIdx.ix2 ⟨o + r.val, by omega⟩ j) := by
  unfold threePrompts
  refine (broadcastInDim_apply _ _ _ _ (ValueIdx.ix3 (0 : Fin 1) r j) fun d => ?_).trans
    ((broadcastInDim_apply _ _ _ _ (ValueIdx.ix2 r j) fun d => ?_).trans ?_)
  · match d with
    | ⟨0, _⟩ => rfl
    | ⟨1, _⟩ => rfl
    | ⟨2, _⟩ => rfl
  · match d with
    | ⟨0, _⟩ => rfl
    | ⟨1, _⟩ => rfl
  · unfold extractStridedSlice
    congr 1
    funext d
    match d with
    | ⟨0, _⟩ => rfl
    | ⟨1, _⟩ => exact Fin.ext (Nat.zero_add _)

theorem kernel_loss (x : FVec Ideal S128x768 .f32) (k₁ k₂ : FVec Ideal S36x768 .f32) (i : S8x128.Idx) :
    out0_7 (F := Ideal) x k₁ k₂ i = loss x k₁ k₂ := by
  have h : ∀ k : FVec Ideal S36x768 .f32, 1 - Ideal.div (shares x k) (Ideal.ofBits .f32 0x47A00000#32) = meanOf x k := fun k => by
    rw [shares_eq, ofBits_count]
    exact mean_eq (cosine x k) (fun a p => cosine_real x k a p) (fun b t => chosen (cosine x k b) t)
  rw [out0_7_apply, h, h]
  rfl

variable (m : (ℓ : Loc nD τ sig) → Buf (Elt Ideal) ℓ)

theorem W5_loss (c : Dev nD) (i : S_.Idx) :
    W5 m c (Proc.devRef .tc main_v22) i = loss (m (c.tc.loc main_arg0)) (m (c.tc.loc main_arg4)) (m (c.tc.loc main_arg6)) := by
  rw [W5_v22]
  exact kernel_loss _ _ _ _

end Kernel

end Cert.Proof.Sc

end
-- ==== Proof.Algebraic.lean ====
/- The two programs compute the same results: their nine results compared entry by entry, then both runs put side by side. -/
module

public import proofs.«01_k».proof.Proof.Ends

@[expose] public section

set_option maxRecDepth 16384

noncomputable section

namespace Cert.Proof.Sc

open Idealize Idealize.ShloMosaic Idealize.ShloMosaic.TcCoe

/-- Two arrays of three axes are equal when their entries are. -/
theorem ext3 {α : Type} {p q r : ℕ} {f g : Shape.Idx ⟨3, ![p, q, r]⟩ → α}
    (h : ∀ (a : Fin p) (b : Fin q) (c : Fin r), f (ValueIdx.ix3 a b c) = g (ValueIdx.ix3 a b c)) : f = g := by
  funext i
  rw [ValueIdx.eq_ix3 i]
  exact h _ _ _

/-- Repeating six prompts for every query and then taking three is taking three and then repeating them. -/
theorem prompts_agree (g : FVec Ideal Cert.ReferenceIdeal.S6x768 .f32) (o : ℕ) (ho : o ≤ 3)
    (hr : Cert.ReferenceIdeal.S128x6x768.Slices ![0, o, 0] Cert.ReferenceIdeal.S128x3x768)
    (hk : Cert.KernelIdeal.S6x768.Slices ![o, 0] Cert.KernelIdeal.S3x768) :
    extractStridedSlice Cert.ReferenceIdeal.S128x3x768 ![0, o, 0]
      (broadcastInDim Cert.ReferenceIdeal.S128x6x768 ![0, 1, 2] Cert.ReferenceIdeal.Gen.bcast_S1x6x768_S128x6x768_0_1_2
        (broadcastInDim Cert.ReferenceIdeal.S1x6x768 ![1, 2] Cert.ReferenceIdeal.Gen.bcast_S6x768_S1x6x768_1_2 g)) hr
      = threePrompts (F := Ideal) o hk g :=
  ext3 fun b r j => (prompts_apply g o ho hr b r j).trans (threePrompts_apply o ho hk g b r j).symm

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The fetched rows of the two programs are the same, from the same queries, keys and tables. -/
theorem rows_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v27 m' c = W5 m c (Proc.devRef .tc Cert.KernelIdeal.main_v8_0)
    ∧ Cert.ReferenceIdeal.Value.res_main_v29 m' c = W5 m c (Proc.devRef .tc Cert.KernelIdeal.main_v8_1)
    ∧ Cert.ReferenceIdeal.Value.res_main_v44 m' c = W5 m c (Proc.devRef .tc Cert.KernelIdeal.main_v8_2)
    ∧ Cert.ReferenceIdeal.Value.res_main_v46 m' c = W5 m c (Proc.devRef .tc Cert.KernelIdeal.main_v8_3) := by
  have e := R_rows m' c
  rw [h0, h3, h4, h5, h6] at e
  exact ⟨ext3 fun b r j => (e b r j).1.trans (W5_rows m c b r j).1.symm,
    ext3 fun b r j => (e b r j).2.1.trans (W5_rows m c b r j).2.1.symm,
    ext3 fun b r j => (e b r j).2.2.1.trans (W5_rows m c b r j).2.2.1.symm,
    ext3 fun b r j => (e b r j).2.2.2.trans (W5_rows m c b r j).2.2.2.symm⟩

/-- The losses of the two programs are the same, from the same queries and keys. -/
theorem loss_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v47 m' c = W5 m c (Proc.devRef .tc Cert.KernelIdeal.main_v22) := by
  have e := R_loss m' c
  rw [h0, h4, h6] at e
  funext i
  exact (e i).trans (W5_loss m c i).symm

end Results

/-- The kernel and the reference, run from the same arguments, end with the same nine results. -/
theorem algebraic : Cert.algebraic_KernelIdeal_ReferenceIdeal := by
  intro m g m' g' _ hm
  refine ⟨fun c => W5 m c (Proc.devRef .tc Cert.KernelIdeal.main_v11), fun c => W5 m c (Proc.devRef .tc Cert.KernelIdeal.main_v14),
    fun c => W5 m c (Proc.devRef .tc Cert.KernelIdeal.main_v17), fun c => W5 m c (Proc.devRef .tc Cert.KernelIdeal.main_v20),
    fun c => W5 m c (Proc.devRef .tc Cert.KernelIdeal.main_v8_0), fun c => W5 m c (Proc.devRef .tc Cert.KernelIdeal.main_v8_1),
    fun c => W5 m c (Proc.devRef .tc Cert.KernelIdeal.main_v8_2), fun c => W5 m c (Proc.devRef .tc Cert.KernelIdeal.main_v8_3),
    fun c => W5 m c (Proc.devRef .tc Cert.KernelIdeal.main_v22), ?_, ?_⟩
  · refine θ_run_mono (run_main m g (inRange m)) fun r h c => ?_
    obtain ⟨h0, h1, h2, h3, h4, h5, h6, h7, h8⟩ := W5_args m c
    exact ⟨h.1 c _ (mem_uc Cert.KernelIdeal.main_v11 (by decide)), h.1 c _ (mem_uc Cert.KernelIdeal.main_v14 (by decide)),
      h.1 c _ (mem_uc Cert.KernelIdeal.main_v17 (by decide)), h.1 c _ (mem_uc Cert.KernelIdeal.main_v20 (by decide)),
      h.1 c _ (mem_uc Cert.KernelIdeal.main_v8_0 (by decide)), h.1 c _ (mem_uc Cert.KernelIdeal.main_v8_1 (by decide)),
      h.1 c _ (mem_uc Cert.KernelIdeal.main_v8_2 (by decide)), h.1 c _ (mem_uc Cert.KernelIdeal.main_v8_3 (by decide)),
      h.1 c _ (mem_uc Cert.KernelIdeal.main_v22 (by decide)),
      (h.1 c _ (mem_uc Cert.KernelIdeal.main_arg0 (by decide))).trans h0, (h.1 c _ (mem_uc Cert.KernelIdeal.main_arg1 (by decide))).trans h1,
      (h.1 c _ (mem_uc Cert.KernelIdeal.main_arg2 (by decide))).trans h2, (h.1 c _ (mem_uc Cert.KernelIdeal.main_arg3 (by decide))).trans h3,
      (h.1 c _ (mem_uc Cert.KernelIdeal.main_arg4 (by decide))).trans h4, (h.1 c _ (mem_uc Cert.KernelIdeal.main_arg5 (by decide))).trans h5,
      (h.1 c _ (mem_uc Cert.KernelIdeal.main_arg6 (by decide))).trans h6, (h.1 c _ (mem_uc Cert.KernelIdeal.main_arg7 (by decide))).trans h7,
      (h.1 c _ (mem_uc Cert.KernelIdeal.main_arg8 (by decide))).trans h8⟩
  · refine θ_run_mono (Cert.ReferenceIdeal.Value.run m' g') fun r h c => ?_
    obtain ⟨a0, a1, a2, a3, a4, a5, a6, -, -⟩ := hm c
    obtain ⟨r0, r1, r2, r3, r4, r5, r6, r7, r8, rest⟩ := h c
    obtain ⟨e4, e5, e6, e7⟩ := rows_agree m m' c a0 a3 a4 a5 a6
    rw [a1] at r0 r1
    rw [a2] at r2 r3
    exact ⟨r0.trans ((prompts_agree _ 0 (by decide) _ _).trans (W5_v11 m c).symm), r1.trans ((prompts_agree _ 3 (by decide) _ _).trans (W5_v14 m c).symm),
      r2.trans ((prompts_agree _ 0 (by decide) _ _).trans (W5_v17 m c).symm), r3.trans ((prompts_agree _ 3 (by decide) _ _).trans (W5_v20 m c).symm),
      r4.trans e4, r5.trans e5, r6.trans e6, r7.trans e7, r8.trans (loss_agree m m' c a0 a4 a6), rest⟩

end Cert.Proof.Sc

end
-- ==== Proof.lean ====
/- The certificate's proof: the claims of proofs.«01_k».proof.Defs, put together. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Algebraic

@[expose] public section

noncomputable section

/-- Everything that the certificate claims. -/
theorem Cert.Proof.claim : Cert.Claim := ⟨inferInstance, inferInstance, Cert.Proof.Sc.frame_kernel, Cert.Proof.Sc.frame_reference,
  Cert.Proof.Sc.algebraic⟩

end
